-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_leading [hPre_leading : Cert.Pre_leading.Facts] (m : (ℓ : Loc Cert.KernelIdeal.nD Cert.KernelIdeal.τ Cert.KernelIdeal.sig) → Buf (Elt Ideal) ℓ) : Prop :=
  ∀ c : Dev Cert.KernelIdeal.nD,
    (Cert.Pre_leading.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_leading [hPre_leading : Cert.Pre_leading.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_leading.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_leading [hKernelIdeal : Cert.KernelIdeal.Facts] [hPre_leading : Cert.Pre_leading.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_leading m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_leading [hReferenceIdeal : Cert.ReferenceIdeal.Facts] [hPre_leading : Cert.Pre_leading.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_leading m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "neg" .f32 0xFF61B1E6#32 ⊥

def algebraic_KernelIdeal_ReferenceIdeal_pre_leading [hKernelIdeal : Cert.KernelIdeal.Facts] [hReferenceIdeal : Cert.ReferenceIdeal.Facts] [hPre_leading : Cert.Pre_leading.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_leading m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_leading : Cert.Pre_leading.Facts),
    quiescent_Kernel (hKernel := hKernel)
    ∧ quiescent_KernelIdeal (hKernelIdeal := hKernelIdeal)
    ∧ quiescent_KernelIdeal_pre_leading (hKernelIdeal := hKernelIdeal) (hPre_leading := hPre_leading)
    ∧ quiescent_ReferenceIdeal (hReferenceIdeal := hReferenceIdeal)
    ∧ quiescent_ReferenceIdeal_pre_leading (hReferenceIdeal := hReferenceIdeal) (hPre_leading := hPre_leading)
    ∧ preserves_Kernel_KernelIdeal
    ∧ algebraic_KernelIdeal_ReferenceIdeal_pre_leading (hKernelIdeal := hKernelIdeal) (hReferenceIdeal := hReferenceIdeal) (hPre_leading := hPre_leading)
-- ==== Pre_leading.lean ====
abbrev S10000x512 : Shape := ⟨2, ![10000, 512]⟩
abbrev S512x512 : Shape := ⟨2, ![512, 512]⟩
abbrev S512 : Shape := ⟨1, ![512]⟩
abbrev S1x512 : Shape := ⟨2, ![1, 512]⟩
abbrev S512x10000 : Shape := ⟨2, ![512, 10000]⟩
abbrev S10000x10000 : Shape := ⟨2, ![10000, 10000]⟩
abbrev S_ : Shape := ⟨0, ![]⟩
abbrev S10000x33 : Shape := ⟨2, ![10000, 33]⟩
abbrev S10000x32 : Shape := ⟨2, ![10000, 32]⟩

class Facts : Prop where
  transposes_S512x512_S512x512_1_0 : S512x512.Transposes [1, 0] S512x512
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  transposes_S10000x512_S512x10000_1_0 : S10000x512.Transposes [1, 0] S512x10000
  bcast_S_S10000x10000 : S_.BroadcastsInDim S10000x10000 (![] : Fin 0 → Fin S10000x10000.rank)
  sliceFits_S10000x10000_S10000x33 : S10000x10000.Slices (fun _ => 0) S10000x33
  slices_S10000x33_S10000x32_0_0 : S10000x33.Slices ![0, 0] S10000x32
  slices_S10000x33_S10000x32_0_1 : S10000x33.Slices ![0, 1] S10000x32
  reducesTo_S10000x32_S_d0_1 : S10000x32.ReducesTo [0, 1] S_
  h_S_ : 0 < S_.numel
  dot_S10000x512_S512x512_S10000x512_1_0_0_1_n_n_wf : DotDims.WF S10000x512 S512x512 S10000x512 [1] [0] [0] [1] [] []
  dot_S10000x512_S512x10000_S10000x10000_1_0_0_1_n_n_wf : DotDims.WF S10000x512 S512x10000 S10000x10000 [1] [0] [0] [1] [] []

variable [Facts]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x512_S512x10000_S10000x10000_1_0_0_1_n_n : DotDims S10000x512 S512x10000 S10000x10000 where
  lhsContracting := [1]
  rhsContracting := [0]
  lhsNonContracting := [0]
  rhsNonContracting := [1]
  lhsBatch := []
  rhsBatch := []
  wf := dot_S10000x512_S512x10000_S10000x10000_1_0_0_1_n_n_wf
def fn {F : FTy → Type} [FloatOps F] (main_arg0 : FVec F S10000x512 .f32) (main_arg1 : FVec F S512x512 .f32) (main_arg2 : FVec F S512 .f32) (main_arg3 : FVec F S512x512 .f32) (main_arg4 : FVec F S512 .f32) : IVec S_ 1 :=
  let main_v0 : FVec F S512x512 .f32 := (transpose S512x512 [1, 0] · transposes_S512x512_S512x512_1_0) main_arg1
  let main_v1 : FVec F S10000x512 .f32 := (fun l r => Host.dotGeneral dot_S10000x512_S512x512_S10000x512_1_0_0_1_n_n none l r) main_arg0 main_v0
  let main_v2 : FVec F S1x512 .f32 := broadcastInDim S1x512 ![1] bcast_S512_S1x512_1 main_arg2
  let main_v3 : FVec F S10000x512 .f32 := broadcastInDim S10000x512 ![0, 1] bcast_S1x512_S10000x512_0_1 main_v2
  let main_v4 : FVec F S10000x512 .f32 := addf main_v1 main_v3
  let main_v5 : FVec F S512x512 .f32 := (transpose S512x512 [1, 0] · transposes_S512x512_S512x512_1_0) main_arg3
  let main_v6 : FVec F S10000x512 .f32 := (fun l r => Host.dotGeneral dot_S10000x512_S512x512_S10000x512_1_0_0_1_n_n none l r) main_arg0 main_v5
  let main_v7 : FVec F S1x512 .f32 := broadcastInDim S1x512 ![1] bcast_S512_S1x512_1 main_arg4
  let main_v8 : FVec F S10000x512 .f32 := broadcastInDim S10000x512 ![0, 1] bcast_S1x512_S10000x512_0_1 main_v7
  let main_v9 : FVec F S10000x512 .f32 := addf main_v6 main_v8
  let main_v10 : FVec F S512x10000 .f32 := (transpose S512x10000 [1, 0] · transposes_S10000x512_S512x10000_1_0) main_v9
  let main_v11 : FVec F S10000x10000 .f32 := (fun l r => Host.dotGeneral dot_S10000x512_S512x10000_S10000x10000_1_0_0_1_n_n none l r) main_v4 main_v10
  let main_cst : FVec F S_ .f32 := constant S_ .f32 0x3D3504F3#32
  let main_v12 : FVec F S10000x10000 .f32 := broadcastInDim S10000x10000 ![] bcast_S_S10000x10000 main_cst
  let main_v13 : FVec F S10000x10000 .f32 := mulf main_v11 main_v12
  let main_values : FVec F S10000x33 .f32 := (fun x => (Host.topK S10000x33 1 (FloatOps.cmpfTotal .gt) x sliceFits_S10000x10000_S10000x33).1) main_v13
  let main_indices : IVec S10000x33 32 := (fun x => (Host.topK S10000x33 1 (FloatOps.cmpfTotal .gt) x sliceFits_S10000x10000_S10000x33).2) main_v13
  let main_v14 : FVec F S10000x32 .f32 := (extractStridedSlice S10000x32 ![0, 0] · slices_S10000x33_S10000x32_0_0) main_values
  let main_v15 : FVec F S10000x32 .f32 := (extractStridedSlice S10000x32 ![0, 1] · slices_S10000x33_S10000x32_0_1) main_values
  let main_v16 : IVec S10000x32 1 := cmpf .ogt main_v14 main_v15
  let main_c : IVec S_ 1 := constantI S_ 1 1#1
  let main_v17 : IVec S_ 1 := (fun x v => Host.reduce IntOp.andi x v reducesTo_S10000x32_S_d0_1 h_S_) main_v16 main_c
  main_v17
-- ==== Kernel.lean ====
abbrev S10000x512 : Shape := ⟨2, ![10000, 512]⟩
abbrev S512x512 : Shape := ⟨2, ![512, 512]⟩
abbrev S512 : Shape := ⟨1, ![512]⟩
abbrev S_ : Shape := ⟨0, ![]⟩
abbrev S10240x512 : Shape := ⟨2, ![10240, 512]⟩
abbrev S1x512 : Shape := ⟨2, ![1, 512]⟩
abbrev S1024x512 : Shape := ⟨2, ![1024, 512]⟩
abbrev S10240x32 : Shape := ⟨2, ![10240, 32]⟩
abbrev S256x512 : Shape := ⟨2, ![256, 512]⟩
abbrev S256x32 : Shape := ⟨2, ![256, 32]⟩
abbrev S256x10240 : Shape := ⟨2, ![256, 10240]⟩
abbrev S256x1024 : Shape := ⟨2, ![256, 1024]⟩
abbrev S256x128 : Shape := ⟨2, ![256, 128]⟩
abbrev S128x256 : Shape := ⟨2, ![128, 256]⟩
abbrev S768x256 : Shape := ⟨2, ![768, 256]⟩
abbrev S32x256 : Shape := ⟨2, ![32, 256]⟩
abbrev S256 : Shape := ⟨1, ![256]⟩
abbrev S1x256 : Shape := ⟨2, ![1, 256]⟩
abbrev S1x128x256 : Shape := ⟨3, ![1, 128, 256]⟩
abbrev S1 : Shape := ⟨1, ![1]⟩
abbrev S1x1x1 : Shape := ⟨3, ![1, 1, 1]⟩
abbrev S256x1 : Shape := ⟨2, ![256, 1]⟩
abbrev S10000x32 : Shape := ⟨2, ![10000, 32]⟩
abbrev S10000 : Shape := ⟨1, ![10000]⟩
abbrev S320000 : Shape := ⟨1, ![320000]⟩
abbrev S1x320000 : Shape := ⟨2, ![1, 320000]⟩
abbrev S2x320000 : Shape := ⟨2, ![2, 320000]⟩

abbrev nBuf : Space → Nat
  | .hbm => 24
  | .vmem => 18
  | .smem => 0
  | _ => 0

abbrev bufTy : (tb : Table) → Fin (tcTables nBuf tb) → BufTy
  | .hbm, ⟨0, _⟩ => ⟨S10000x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S_, .i32⟩
  | .hbm, ⟨6, _⟩ => ⟨S_, .f32⟩
  | .hbm, ⟨7, _⟩ => ⟨S10240x512, .f32⟩
  | .hbm, ⟨8, _⟩ => ⟨S1x512, .f32⟩
  | .hbm, ⟨9, _⟩ => ⟨S1x512, .f32⟩
  | .hbm, ⟨10, _⟩ => ⟨S10240x512, .f32⟩
  | .hbm, ⟨11, _⟩ => ⟨S10240x512, .f32⟩
  | .hbm, ⟨12, _⟩ => ⟨S10240x32, .i32⟩
  | .hbm, ⟨13, _⟩ => ⟨S10240x32, .f32⟩
  | .hbm, ⟨14, _⟩ => ⟨S10000x32, .i32⟩
  | .hbm, ⟨15, _⟩ => ⟨S10000x32, .f32⟩
  | .hbm, ⟨16, _⟩ => ⟨S10000, .i32⟩
  | .hbm, ⟨17, _⟩ => ⟨S10000x32, .i32⟩
  | .hbm, ⟨18, _⟩ => ⟨S320000, .i32⟩
  | .hbm, ⟨19, _⟩ => ⟨S320000, .i32⟩
  | .hbm, ⟨20, _⟩ => ⟨S1x320000, .i32⟩
  | .hbm, ⟨21, _⟩ => ⟨S1x320000, .i32⟩
  | .hbm, ⟨22, _⟩ => ⟨S2x320000, .i32⟩
  | .hbm, ⟨23, _⟩ => ⟨S320000, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S256x512, .f32⟩
  | .local _ .vmem, ⟨11, _⟩ => ⟨S256x512, .f32⟩
  | .local _ .vmem, ⟨12, _⟩ => ⟨S10240x512, .f32⟩
  | .local _ .vmem, ⟨13, _⟩ => ⟨S256x32, .i32⟩
  | .local _ .vmem, ⟨14, _⟩ => ⟨S256x32, .i32⟩
  | .local _ .vmem, ⟨15, _⟩ => ⟨S256x32, .f32⟩
  | .local _ .vmem, ⟨16, _⟩ => ⟨S256x32, .f32⟩
  | .local _ .vmem, ⟨17, _⟩ => ⟨S256x10240, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4_0 : Ref sig .tc := ⟨.hbm, 12, rfl⟩
abbrev main_v4_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![40], ![false]⟩

@[reducible] def k1_t1_loop : Scf.Loop 32 :=
  let c0_i32 : BitVec 32 := 0#32
  let c10_i32 : BitVec 32 := 10#32
  let v3 : BitVec 32 := Scalar.addi c0_i32 c10_i32
  let c1_i32 : BitVec 32 := 1#32
  ⟨c0_i32, v3, c1_i32⟩
def k1_off1 (k1_t1 : Fin k1_t1_loop.trips) : Fin 2 → Nat :=
  let c0_i32 : BitVec 32 := 0#32
  let c1_i32 : BitVec 32 := 1#32
  let arg6 : BitVec 32 := Scf.iv c0_i32 c1_i32 k1_t1
  let c1024_i32 : BitVec 32 := 1024#32
  let v82 : BitVec 32 := Scalar.muli arg6 c1024_i32
  let v83 : Index := Scalar.indexCast v82
  let c0_35 : Index := 0#32
  ![v83.toNat, 0]
def k1_off2 (k1_t1 : Fin k1_t1_loop.trips) : Fin 2 → Nat :=
  let c0_41 : Index := 0#32
  let c0_i32 : BitVec 32 := 0#32
  let c1_i32 : BitVec 32 := 1#32
  let arg6 : BitVec 32 := Scf.iv c0_i32 c1_i32 k1_t1
  let c1024_i32_40 : BitVec 32 := 1024#32
  let v96 : BitVec 32 := Scalar.muli arg6 c1024_i32_40
  let v97 : Index := Scalar.indexCast v96
  ![0, v97.toNat]
@[reducible] def k1_t2_loop : Scf.Loop 32 :=
  let c0_i32_13 : BitVec 32 := 0#32
  let c80_i32 : BitVec 32 := 80#32
  let v18 : BitVec 32 := Scalar.addi c0_i32_13 c80_i32
  let c1_i32_14 : BitVec 32 := 1#32
  ⟨c0_i32_13, v18, c1_i32_14⟩
def k1_off3 (k1_t2 : Fin k1_t2_loop.trips) : Fin 2 → Nat :=
  let c0_36 : Index := 0#32
  let c0_i32_13 : BitVec 32 := 0#32
  let c1_i32_14 : BitVec 32 := 1#32
  let arg6 : BitVec 32 := Scf.iv c0_i32_13 c1_i32_14 k1_t2
  let c128_i32_35 : BitVec 32 := 128#32
  let v82 : BitVec 32 := Scalar.muli arg6 c128_i32_35
  let v83 : Index := Scalar.indexCast v82
  ![0, v83.toNat]
@[reducible] def k1_t3_loop : Scf.Loop 32 :=
  let c0_i32_23 : BitVec 32 := 0#32
  let c32_i32 : BitVec 32 := 32#32
  let v55 : BitVec 32 := Scalar.addi c0_i32_23 c32_i32
  let c1_i32_24 : BitVec 32 := 1#32
  ⟨c0_i32_23, v55, c1_i32_24⟩
@[reducible] def k1_t4_loop : Scf.Loop 32 :=
  let c0_i32_37 : BitVec 32 := 0#32
  let c32_i32_38 : BitVec 32 := 32#32
  let v84 : BitVec 32 := Scalar.addi c0_i32_37 c32_i32_38
  let c1_i32_39 : BitVec 32 := 1#32
  ⟨c0_i32_37, v84, c1_i32_39⟩
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10240x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x32 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== KernelIdeal.lean ====
variable {F : FTy → Type} [FloatOps F] [Named F]
def κ : String → Option EReal := fun
  | "neg" => some ⊥
  | _ => none
-- ==== ReferenceIdeal.lean ====
abbrev S10000x512 : Shape := ⟨2, ![10000, 512]⟩
abbrev S512x512 : Shape := ⟨2, ![512, 512]⟩
abbrev S512 : Shape := ⟨1, ![512]⟩
abbrev S1x512 : Shape := ⟨2, ![1, 512]⟩
abbrev S512x10000 : Shape := ⟨2, ![512, 10000]⟩
abbrev S10000x10000 : Shape := ⟨2, ![10000, 10000]⟩
abbrev S_ : Shape := ⟨0, ![]⟩
abbrev S10000x32 : Shape := ⟨2, ![10000, 32]⟩
abbrev S10000 : Shape := ⟨1, ![10000]⟩
abbrev S10000x1 : Shape := ⟨2, ![10000, 1]⟩
abbrev S320000 : Shape := ⟨1, ![320000]⟩
abbrev S1x320000 : Shape := ⟨2, ![1, 320000]⟩
abbrev S2x320000 : Shape := ⟨2, ![2, 320000]⟩

abbrev nBuf : Space → Nat
  | .hbm => 44
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S10000x512, .f32⟩
  | .hbm, ⟨7, _⟩ => ⟨S1x512, .f32⟩
  | .hbm, ⟨8, _⟩ => ⟨S10000x512, .f32⟩
  | .hbm, ⟨9, _⟩ => ⟨S10000x512, .f32⟩
  | .hbm, ⟨10, _⟩ => ⟨S512x512, .f32⟩
  | .hbm, ⟨11, _⟩ => ⟨S10000x512, .f32⟩
  | .hbm, ⟨12, _⟩ => ⟨S1x512, .f32⟩
  | .hbm, ⟨13, _⟩ => ⟨S10000x512, .f32⟩
  | .hbm, ⟨14, _⟩ => ⟨S10000x512, .f32⟩
  | .hbm, ⟨15, _⟩ => ⟨S512x10000, .f32⟩
  | .hbm, ⟨16, _⟩ => ⟨S10000x10000, .f32⟩
  | .hbm, ⟨17, _⟩ => ⟨S_, .f32⟩
  | .hbm, ⟨18, _⟩ => ⟨S10000x10000, .f32⟩
  | .hbm, ⟨19, _⟩ => ⟨S10000x10000, .f32⟩
  | .hbm, ⟨20, _⟩ => ⟨S10000x32, .f32⟩
  | .hbm, ⟨21, _⟩ => ⟨S10000x32, .i32⟩
  | .hbm, ⟨22, _⟩ => ⟨S_, .f32⟩
  | .hbm, ⟨23, _⟩ => ⟨S10000, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S10000x1, .f32⟩
  | .hbm, ⟨28, _⟩ => ⟨S10000x32, .f32⟩
  | .hbm, ⟨29, _⟩ => ⟨S10000x32, .f32⟩
  | .hbm, ⟨30, _⟩ => ⟨S10000x32, .f32⟩
  | .hbm, ⟨31, _⟩ => ⟨S_, .f32⟩
  | .hbm, ⟨32, _⟩ => ⟨S10000, .f32⟩
  | .hbm, ⟨33, _⟩ => ⟨S10000x1, .f32⟩
  | .hbm, ⟨34, _⟩ => ⟨S10000x32, .f32⟩
  | .hbm, ⟨35, _⟩ => ⟨S10000x32, .f32⟩
  | .hbm, ⟨36, _⟩ => ⟨S10000, .i32⟩
  | .hbm, ⟨37, _⟩ => ⟨S10000x32, .i32⟩
  | .hbm, ⟨38, _⟩ => ⟨S320000, .i32⟩
  | .hbm, ⟨39, _⟩ => ⟨S320000, .i32⟩
  | .hbm, ⟨40, _⟩ => ⟨S1x320000, .i32⟩
  | .hbm, ⟨41, _⟩ => ⟨S1x320000, .i32⟩
  | .hbm, ⟨42, _⟩ => ⟨S2x320000, .i32⟩
  | .hbm, ⟨43, _⟩ => ⟨S320000, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_values : Ref sig .tc := ⟨.hbm, 20, rfl⟩
abbrev main_indices : Ref sig .tc := ⟨.hbm, 21, rfl⟩
abbrev main_cst_0 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Proof.Model.lean ====
/-
  What the two kernel bodies compute, as functions of the blocks they read, over any float instance.

  The first body is one projection per output (`k0_pay2`, `k0_pay3`). The second one: `scr` is the scratch after the
  score loop; `st2` the twelve carried arrays of the insertion loop; `st3` the selection loop over the candidates; `st4`
  the masking loop of the other branch; `sel` the selected values and columns, whichever branch ran; `outI`/`outW` the
  two blocks stored.
-/
module

public import proofs.«01_k».proof.Proof.Gen.KernelIdeal.Skeleton
public import Idealize.ShloMosaic.Lib.Exec
public import Idealize.ShloMosaic.Lib.Pipeline.Kit
public import Idealize.ShloMosaic.Lib.Pipeline.FrameBody

@[expose] public section

noncomputable section

namespace Cert.KernelIdeal.Model

open Cert.KernelIdeal Cert.KernelIdeal.Gen
open Idealize.ShloMosaic Idealize.SL.Sem

variable {F : FTy → Type} [FloatOps F] [Named F]

/-- The tail block a trip of the score loop reads. -/
def tailRows (et : Vec F S10240x512 .f32) (k : Fin k1_t1_loop.trips) : Vec F S1024x512 .f32 :=
  View.ld et (Rect.unit (s := S10240x512) (k1_off1 k) S1024x512.size (k1_off1_inb k))

theorem trip1_lt (y : S256x10240.Idx) : (y 1).val / 1024 < k1_t1_loop.trips := by
  have h : (y 1).val < 10240 := (y 1).isLt
  have e : k1_t1_loop.trips = 10 := by decide +kernel
  omega

/-- The scratch after the score loop: column `1024 k + j` is column `j` of what trip `k` stores. -/
def scr (eh : Vec F S256x512 .f32) (et : Vec F S10240x512 .f32) : Vec F S256x10240 .f32 := fun y =>
  k1_pay2 eh ⟨(y 1).val / 1024, trip1_lt y⟩ (tailRows et ⟨(y 1).val / 1024, trip1_lt y⟩)
    ((fun a => match a with
      | ⟨0, _⟩ => y 0
      | ⟨1, _⟩ => ⟨(y 1).val % 1024, Nat.mod_lt _ (by decide)⟩ : S256x1024.Idx))

/-- The insertion loop's carried arrays: six value arrays, six group arrays. -/
abbrev St2 (F : FTy → Type) : Type :=
  FVec F S256x128 .f32 × FVec F S256x128 .f32 × FVec F S256x128 .f32 × FVec F S256x128 .f32 × FVec F S256x128 .f32
    × FVec F S256x128 .f32 × IVec S256x128 32 × IVec S256x128 32 × IVec S256x128 32 × IVec S256x128 32
    × IVec S256x128 32 × IVec S256x128 32

/-- The scratch columns a trip of the insertion loop reads. -/
def laneCols (X : Vec F S256x10240 .f32) (k : Fin k1_t2_loop.trips) : Vec F S256x128 .f32 :=
  View.ld X (Rect.unit (s := S256x10240) (k1_off3 k) S256x128.size (k1_off3_inb k))

/-- One insertion. -/
def step2 (k : Fin k1_t2_loop.trips) (v : Vec F S256x128 .f32) : St2 F → St2 F
  | (a7, a8, a9, a10, a11, a12, a13, a14, a15, a16, a17, a18) =>
    (k1_pay17 a7 v, k1_pay22 a7 a8 v, k1_pay27 a7 a8 a9 v, k1_pay32 a7 a8 a9 a10 v, k1_pay37 a7 a8 a9 a10 a11 v,
      k1_pay41 a7 a8 a9 a10 a11 a12 v, k1_pay19 k a7 a13 v, k1_pay24 k a7 a8 a13 a14 v,
      k1_pay29 k a7 a8 a9 a13 a14 a15 v, k1_pay34 k a7 a8 a9 a10 a13 a14 a15 a16 v,
      k1_pay39 k a7 a8 a9 a10 a11 a13 a14 a15 a16 a17 v, k1_pay42 k a7 a8 a9 a10 a11 a12 a13 a14 a15 a16 a17 a18 v)

def init2 : St2 F :=
  (k1_pay3, k1_pay4, k1_pay5, k1_pay6, k1_pay7, k1_pay8, k1_pay9, k1_pay10, k1_pay11, k1_pay12, k1_pay13, k1_pay14)

/-- The carried arrays before trip `k`. -/
def st2 (X : Vec F S256x10240 .f32) : ℕ → St2 F
  | 0 => init2
  | k + 1 => if h : k < k1_t2_loop.trips then step2 ⟨k, h⟩ (laneCols X ⟨k, h⟩) (st2 X k) else st2 X k

theorem st2_succ (X : Vec F S256x10240 .f32) (k : Fin k1_t2_loop.trips) :
    st2 X (k.val + 1) = step2 k (laneCols X k) (st2 X k.val) := dif_pos k.isLt

/-- The values the first part hands the second. -/
abbrev P1 (F : FTy → Type) : Type :=
  Σ' (v4 : IVec S256x32 32) (v5 : IVec S256x128 32) (v19_8 : IVec S256x128 32) (v19_9 : IVec S256x128 32)
    (v19_10 : IVec S256x128 32) (v19_11 : IVec S256x128 32) (v26 : FVec F S768x256 .f32) (v30 : IVec S128x256 32),
    IVec S256x128 32

/-- The lane numbers of the output block and of one group. -/
def v4 : IVec S256x32 32 := iota .tc S256x32 32 [1] iota_S256x32_d1_w32
def v5 : IVec S256x128 32 := iota .tc S256x128 32 [1] iota_S256x128_d1_w32

/-- What the first part returns, of the insertion loop's result. -/
def part1Of : St2 F → P1 F
  | (a0, a1, a2, a3, a4, a5, a6, a7, a8, a9, a10, a11) =>
    ⟨v4, v5, a8, a9, a10, a11, k1_pay43 a0 a1 a2 a3 a4 a5, k1_pay44 a6, k1_pay45 a7⟩

def part1 (X : Vec F S256x10240 .f32) : P1 F := part1Of (st2 X k1_t2_loop.trips)

/-- The selection loop's carried arrays: values, columns, remaining candidates. -/
abbrev St3 (F : FTy → Type) : Type := FVec F S32x256 .f32 × IVec S32x256 32 × FVec F S768x256 .f32

def step3 (p : P1 F) (k : Fin k1_t3_loop.trips) (s : St3 F) : St3 F :=
  (k1_pay52 k s.1 s.2.2,
   k1_pay53 p.2.1 p.2.2.1 p.2.2.2.1 p.2.2.2.2.1 p.2.2.2.2.2.1 p.2.2.2.2.2.2.2.1 p.2.2.2.2.2.2.2.2 k s.2.1 s.2.2,
   k1_pay51 p.2.1 p.2.2.1 p.2.2.2.1 p.2.2.2.2.1 p.2.2.2.2.2.1 p.2.2.2.2.2.2.2.1 p.2.2.2.2.2.2.2.2 s.2.2)

def st3 (p : P1 F) : ℕ → St3 F
  | 0 => (k1_pay47, k1_pay48, p.2.2.2.2.2.2.1)
  | k + 1 => if h : k < k1_t3_loop.trips then step3 p ⟨k, h⟩ (st3 p k) else st3 p k

theorem st3_succ (p : P1 F) (k : Fin k1_t3_loop.trips) : st3 p (k.val + 1) = step3 p k (st3 p k.val) := dif_pos k.isLt

/-- The masking loop's carried arrays and the scratch: values, columns, remaining scores. -/
abbrev St4 (F : FTy → Type) : Type := (FVec F S256x32 .f32 × IVec S256x32 32) × Vec F S256x10240 .f32

def step4 (v4 : IVec S256x32 32) (k : Fin k1_t4_loop.trips) (s : St4 F) : St4 F :=
  ((k1_pay62 v4 k s.1.1 s.2, k1_pay63 v4 k s.1.2 s.2), k1_pay61 s.2)

theorem step4_snd (v4 : IVec S256x32 32) (k : Fin k1_t4_loop.trips) (s : St4 F) : (step4 v4 k s).2 = k1_pay61 s.2 := by
  unfold step4
  dsimp only

def st4 (v4 : IVec S256x32 32) (X : Vec F S256x10240 .f32) : ℕ → St4 F
  | 0 => ((k1_pay57, k1_pay58), X)
  | k + 1 => if h : k < k1_t4_loop.trips then step4 v4 ⟨k, h⟩ (st4 v4 X k) else st4 v4 X k

theorem st4_succ (v4 : IVec S256x32 32) (X : Vec F S256x10240 .f32) (k : Fin k1_t4_loop.trips) :
    st4 v4 X (k.val + 1) = step4 v4 k (st4 v4 X k.val) := dif_pos k.isLt

/-- The conditional's word: some lane's deepest candidate was taken. -/
def ovf (s : St3 F) : BitVec 1 :=
  Scalar.cmpi .ne (Scalar.extui (Scalar.cmpi .sgt (extractAt ![0, 0, 0] (k1_pay54 s.2.2) inpos_S1x1x1_p0_0_0) 0#32) : BitVec 32) 0#32

/-- The selected values and columns, of the first part's result and the scratch. -/
def selOf (p : P1 F) (X : Vec F S256x10240 .f32) : FVec F S256x32 .f32 × IVec S256x32 32 :=
  if ovf (st3 p k1_t3_loop.trips) = 1#1 then (st4 p.1 X k1_t4_loop.trips).1
  else (k1_pay55 (st3 p k1_t3_loop.trips).1, k1_pay56 (st3 p k1_t3_loop.trips).2.1)

theorem selOf_pos (p : P1 F) (X : Vec F S256x10240 .f32) (h : ovf (st3 p k1_t3_loop.trips) = 1#1) :
    selOf p X = (st4 p.1 X k1_t4_loop.trips).1 := if_pos h

theorem selOf_neg (p : P1 F) (X : Vec F S256x10240 .f32) (h : ¬ ovf (st3 p k1_t3_loop.trips) = 1#1) :
    selOf p X = (k1_pay55 (st3 p k1_t3_loop.trips).1, k1_pay56 (st3 p k1_t3_loop.trips).2.1) := if_neg h

/-- The weights of a block of selected values: shifted exponentials over their sum. -/
def wOf (v : FVec F S256x32 .f32) : FVec F S256x32 .f32 := k1_pay1 (k1_pay64 v) (k1_pay65 v)

/-- The selected values and columns of one block of head rows: the columns are stored, and the weights `wOf` of the
    values. -/
def sel (eh : Vec F S256x512 .f32) (et : Vec F S10240x512 .f32) : FVec F S256x32 .f32 × IVec S256x32 32 :=
  selOf (part1 (scr eh et)) (scr eh et)

theorem sel_of (eh : Vec F S256x512 .f32) (et : Vec F S10240x512 .f32) (r : P1 F) (hr : r = part1 (scr eh et)) :
    sel eh et = selOf r (scr eh et) := by
  subst hr
  exact rfl

end Cert.KernelIdeal.Model

end
-- ==== Proof.Body.lean ====
/-
  The two kernel bodies run: from their blocks held, they end with the blocks read unchanged and the blocks written at
  the model's values.
-/
module

public import proofs.«01_k».proof.Proof.Model
public import Idealize.ShloMosaic.Lib.Exec
public import Idealize.ShloMosaic.Lib.Tactic
public import Idealize.ShloMosaic.Lib.WritesUnit
public import Idealize.ShloMosaic.Lib.VecWindow
public import Idealize.ShloMosaic.Lib.Pipeline.Value
public import Idealize.ShloMosaic.Lib.Pipeline.Kit

@[expose] public section

set_option maxRecDepth 8192

noncomputable section

namespace Cert.KernelIdeal.Body

open Cert.KernelIdeal Cert.KernelIdeal.Gen Cert.KernelIdeal.Model
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A buffer held whole through a memref. -/
abbrev At (c : Dev nD) {S : Shape} {e : EltTy} (a : Memref sig .tc .vmem S e) (f : BufTy.Contents (Elt F) a.view.ty) : sProp 𝕄 :=
  iprop(a.view.loc (c : Thread nD τ) ↦[a.view.set]{fullShare} f)

section Zero

theorem body0 (c : Dev nD) (i : grid0.Coords)
    (arg1 : Memref sig .tc .vmem S1024x512 .f32) (harg1 : arg1.IsWhole)
    (arg2 : Memref sig .tc .vmem S512x512 .f32) (harg2 : arg2.IsWhole)
    (arg3 : Memref sig .tc .vmem S1x512 .f32) (harg3 : arg3.IsWhole)
    (arg4 : Memref sig .tc .vmem S512x512 .f32) (harg4 : arg4.IsWhole)
    (arg5 : Memref sig .tc .vmem S1x512 .f32) (harg5 : arg5.IsWhole)
    (arg6 : Memref sig .tc .vmem S1024x512 .f32) (harg6 : arg6.IsWhole)
    (arg7 : Memref sig .tc .vmem S1024x512 .f32) (harg7 : arg7.IsWhole)
    (f1 : BufTy.Contents (Elt F) arg1.view.ty) (f2 : BufTy.Contents (Elt F) arg2.view.ty)
    (f3 : BufTy.Contents (Elt F) arg3.view.ty) (f4 : BufTy.Contents (Elt F) arg4.view.ty)
    (f5 : BufTy.Contents (Elt F) arg5.view.ty) (f6 : BufTy.Contents (Elt F) arg6.view.ty)
    (f7 : BufTy.Contents (Elt F) arg7.view.ty) :
    iprop(At c arg1 f1 ∗ At c arg2 f2 ∗ At c arg3 f3 ∗ At c arg4 f4 ∗ At c arg5 f5 ∗ At c arg6 f6 ∗ At c arg7 f7)
      ⊢ wp frame (wpE (defs₀ (F := F)) Variants.none (c : Thread nD τ) none) Set.univ
          (cc0__proj_kernel (F := F) i arg1 harg1 arg2 harg2 arg3 harg3 arg4 harg4 arg5 harg5 arg6 harg6 arg7 harg7)
          (fun _ => iprop(At c arg1 f1 ∗ At c arg2 f2 ∗ At c arg3 f3 ∗ At c arg4 f4 ∗ At c arg5 f5
            ∗ (∃ g6, ⌜arg6.view.read (Elt F) g6 = k0_pay2 (arg1.view.read (Elt F) f1) (arg2.view.read (Elt F) f2) (arg3.view.read (Elt F) f3)⌝ ∗ At c arg6 g6)
            ∗ (∃ g7, ⌜arg7.view.read (Elt F) g7 = k0_pay3 (arg1.view.read (Elt F) f1) (arg4.view.read (Elt F) f4) (arg5.view.read (Elt F) f5)⌝ ∗ At c arg7 g7))) := by
  rw [cc0__proj_kernel_eq_skeleton]
  unfold cc0__proj_kernel_skel
  iintro ⟨H1, H2, H3, H4, H5, H6, H7⟩
  sl_exec
  sl_step
  isplitl [H1]; · iexact H1
  isplitl [H2]; · iexact H2
  isplitl [H3]; · iexact H3
  isplitl [H4]; · iexact H4
  isplitl [H5]; · iexact H5
  isplitl [H6]
  · iexists _; isplitr; swap; · iexact H6
    ipureintro
    rw [View.read_writes_full, View.readAt_full, View.readAt_full, View.readAt_full]
  iexists _; isplitr; swap; · iexact H7
  ipureintro
  rw [View.read_writes_full, View.readAt_full, View.readAt_full, View.readAt_full]

end Zero

section One

variable (c : Dev nD) (i : grid1.Coords)
  (arg1 : Memref sig .tc .vmem S256x512 .f32) (harg1 : arg1.IsWhole)
  (arg2 : Memref sig .tc .vmem S10240x512 .f32) (harg2 : arg2.IsWhole)
  (arg3 : Memref sig .tc .vmem S256x32 .i32) (harg3 : arg3.IsWhole)
  (arg4 : Memref sig .tc .vmem S256x32 .f32) (harg4 : arg4.IsWhole)
  (arg5 : Memref sig .tc .vmem S256x10240 .f32) (harg5 : arg5.IsWhole)

/-- What a trip of the score loop leaves in the scratch, read: its own columns, the others as they were. -/
theorem scr_step (f5 : BufTy.Contents (Elt F) arg5.view.ty) (eh : Vec F S256x512 .f32) (et : Vec F S10240x512 .f32)
    (k : Fin k1_t1_loop.trips)
    (h : ∀ y : S256x10240.Idx, (y 1).val < 1024 * k.val → arg5.view.read (Elt F) f5 y = scr eh et y)
    (y : S256x10240.Idx) (hy : (y 1).val < 1024 * (k.val + 1)) :
    arg5.view.read (Elt F) (arg5.view.writes (Elt F) f5
      [⟨Rect.unit (s := S256x10240) (k1_off2 k) S256x1024.size (k1_off2_inb k), k1_pay2 eh k (tailRows et k)⟩]) y
      = scr eh et y := by
  by_cases hlt : (y 1).val < 1024 * k.val
  · rw [View.read_writes_cons_unit_of_not_mem (off' := ![0, 1024 * k.val]) arg5.view f5 (k1_off2_inb k) _ [] y
      (k1_off2_eq k) 1 (.inl (by simpa using hlt)), View.writes_nil]
    exact h y hlt
  · have hk : (y 1).val / 1024 = k.val := by omega
    have hkk : (⟨(y 1).val / 1024, trip1_lt y⟩ : Fin k1_t1_loop.trips) = k := Fin.ext hk
    rw [View.read_writes_cons_unit_of_mem (off' := ![0, 1024 * k.val]) arg5.view f5 (k1_off2_inb k) _ [] y
      ((fun a => match a with
      | ⟨0, _⟩ => y 0
      | ⟨1, _⟩ => ⟨(y 1).val % 1024, Nat.mod_lt _ (by decide)⟩ : S256x1024.Idx)) (k1_off2_eq k)
      (Fin.forall_fin_two.mpr ⟨by simp, by simp; omega⟩)]
    unfold scr
    rw [hkk]
    rfl

set_option warn.classDefReducibility false in
@[sl_loop] def loop1 (v0 : Vec F S256x512 .f32) (f2 : BufTy.Contents (Elt F) arg2.view.ty) :
    LoopInv (M := 𝕄) Idealize.ShloMosaic.frame (wpE (defs₀ (F := F)) Variants.none (c : Thread nD τ) none) Set.univ
      k1_t1_loop.lb k1_t1_loop.ub k1_t1_loop.st k1_t1_ok ()
      (k1_t1_body (F := F) i arg1 harg1 arg2 harg2 arg3 harg3 arg4 harg4 arg5 harg5 v0) where
  inv k _ := iprop(At c arg2 f2 ∗ ∃ f5, ⌜∀ y : S256x10240.Idx, (y 1).val < 1024 * k →
      arg5.view.read (Elt F) f5 y = scr v0 (arg2.view.read (Elt F) f2) y⌝ ∗ At c arg5 f5)
  step k _ := by
    unfold k1_t1_body
    iintro ⟨H2, %f5, %h5, H5⟩
    sl_exec
    sl_step
    isplitl [H2]; · iexact H2
    iexists _; isplitr; swap; · iexact H5
    ipureintro
    exact scr_step arg5 f5 v0 (arg2.view.read (Elt F) f2) k h5

set_option warn.classDefReducibility false in
@[sl_loop] def loop2 (f5 : BufTy.Contents (Elt F) arg5.view.ty) :
    LoopInv (M := 𝕄) Idealize.ShloMosaic.frame (wpE (defs₀ (F := F)) Variants.none (c : Thread nD τ) none) Set.univ
      k1_t2_loop.lb k1_t2_loop.ub k1_t2_loop.st k1_t2_ok
      (k1_pay3 (F := F), k1_pay4 (F := F), k1_pay5 (F := F), k1_pay6 (F := F), k1_pay7 (F := F), k1_pay8 (F := F), k1_pay9, k1_pay10, k1_pay11, k1_pay12, k1_pay13, k1_pay14)
      (k1_t2_body (F := F) i arg1 harg1 arg2 harg2 arg3 harg3 arg4 harg4 arg5 harg5) where
  inv k acc := iprop(⌜acc = st2 (arg5.view.read (Elt F) f5) k⌝ ∗ At c arg5 f5)
  step k acc := by
    obtain ⟨a7, a8, a9, a10, a11, a12, a13, a14, a15, a16, a17, a18⟩ := acc
    unfold k1_t2_body
    iintro ⟨%h, H5⟩
    sl_exec
    sl_step
    isplitr; swap; · iexact H5
    ipureintro
    rw [st2_succ, ← h]
    rfl

/-- The first part: the scratch filled with the scores, the insertion loop's result returned. -/
theorem run1 (f1 : BufTy.Contents (Elt F) arg1.view.ty) (f2 : BufTy.Contents (Elt F) arg2.view.ty)
    (f5 : BufTy.Contents (Elt F) arg5.view.ty) :
    iprop(At c arg1 f1 ∗ At c arg2 f2 ∗ At c arg5 f5)
      ⊢ wp frame (wpE (defs₀ (F := F)) Variants.none (c : Thread nD τ) none) Set.univ
          (k1_part1 (F := F) i arg1 harg1 arg2 harg2 arg3 harg3 arg4 harg4 arg5 harg5)
          (fun r => iprop(⌜r = part1 (scr (arg1.view.read (Elt F) f1) (arg2.view.read (Elt F) f2))⌝
            ∗ At c arg1 f1 ∗ At c arg2 f2
            ∗ At c arg5 (harg5.unread (scr (arg1.view.read (Elt F) f1) (arg2.view.read (Elt F) f2))))) := by
  rw [k1_part1_eq_skeleton]
  unfold k1_part1_skel
  iintro ⟨H1, H2, H5⟩
  sl_exec
  have e5 : arg5.view.read (Elt F) f5L0 = scr (arg1.view.read (Elt F) f1) (arg2.view.read (Elt F) f2) := by
    funext y
    rw [hL1 y (by
      have h : (y 1).val < 10240 := (y 1).isLt
      have e : Scf.trips k1_t1_loop.lb k1_t1_loop.ub k1_t1_loop.st = 10 := by decide +kernel
      omega), View.readAt_full]
  obtain rfl := harg5.eq_unread e5
  rw [harg5.read_unread]
  sl_step
  isplitr; · ipureintro; rfl
  isplitl [H1]; · iexact H1
  isplitl [H2]; · iexact H2
  iexact H5

variable (v4 : IVec S256x32 32) (v5 : IVec S256x128 32) (v19_8 : IVec S256x128 32) (v19_9 : IVec S256x128 32)
  (v19_10 : IVec S256x128 32) (v19_11 : IVec S256x128 32) (v26 : FVec F S768x256 .f32) (v30 : IVec S128x256 32)
  (v33 : IVec S256x128 32)

/-- A pure loop's result is the value after the last trip of any sequence that takes its steps. -/
theorem fold_eq_of_steps {σ : Type} {n : ℕ} (g : Fin n → σ → σ) (init : σ) (f : ℕ → σ) (h0 : f 0 = init)
    (hs : ∀ k : Fin n, f (k.val + 1) = g k (f k.val)) : Scf.fold g init = f n := by
  rw [Scf.fold_eq, ← h0]
  have key : ∀ m : ℕ, ∀ hm : m ≤ n, ((List.finRange m).map (Fin.castLE hm)).foldl (fun acc k => g k acc) (f 0) = f m := by
    intro m
    induction m with
    | zero => intro _; rfl
    | succ m ih =>
      intro hm
      rw [List.finRange_succ_last, List.map_append, List.foldl_append, List.map_map]
      have := ih (by omega)
      rw [show (Fin.castLE hm ∘ Fin.castSucc : Fin m → Fin n) = Fin.castLE (by omega) from rfl, this]
      exact (hs ⟨m, by omega⟩).symm
  have := key n le_rfl
  simpa using this

/-- The selection loop's result, as the run states it. -/
theorem fold_st3 (p : P1 F) : Scf.fold (fun k s => step3 p k s) (k1_pay47 (F := F), k1_pay48, p.2.2.2.2.2.2.1)
    = st3 p k1_t3_loop.trips :=
  fold_eq_of_steps _ _ (st3 p) rfl (st3_succ p)

set_option warn.classDefReducibility false in
def loop4 (X : Vec F S256x10240 .f32) :
    LoopInv (M := 𝕄) Idealize.ShloMosaic.frame (wpE (defs₀ (F := F)) Variants.none (c : Thread nD τ) none) Set.univ
      k1_t4_loop.lb k1_t4_loop.ub k1_t4_loop.st k1_t4_ok (k1_pay57 (F := F), k1_pay58)
      (k1_t4_body (F := F) i arg1 harg1 arg2 harg2 arg3 harg3 arg4 harg4 arg5 harg5 v4 v5 v19_8 v19_9 v19_10 v19_11 v26 v30 v33) where
  inv k acc := iprop(⌜acc = (Model.st4 (F := F) v4 X k).1⌝ ∗ At c arg5 (harg5.unread (Model.st4 (F := F) v4 X k).2))
  step k acc := by
    obtain ⟨a7, a8⟩ := acc
    unfold k1_t4_body
    iintro ⟨%h, H5⟩
    sl_exec
    sl_step
    have e := arg5.view.read_writes_full (harg5.unread (Model.st4 (F := F) v4 X k.val).2) inb_S256x10240_S256x10240_0_0
      (k1_pay61 (Model.st4 (F := F) v4 X k.val).2) []
    rw [View.readAt_full, harg5.read_unread]
    rw [harg5.eq_unread e]
    have e2 : (Model.st4 (F := F) v4 X (k.val + 1)).2 = k1_pay61 (Model.st4 (F := F) v4 X k.val).2 := by
      rw [st4_succ, step4_snd]
    rw [e2]
    isplitr; swap; · iexact H5
    ipureintro
    rw [st4_succ]
    unfold step4
    rw [← h]

/-- The second part: the selected columns, the shifted exponentials and their row sums; the scratch at something. -/
theorem run2 (X : Vec F S256x10240 .f32) :
    iprop(At c arg5 (harg5.unread X))
      ⊢ wp frame (wpE (defs₀ (F := F)) Variants.none (c : Thread nD τ) none) Set.univ
          (k1_part2 (F := F) i arg1 harg1 arg2 harg2 arg3 harg3 arg4 harg4 arg5 harg5 v4 v5 v19_8 v19_9 v19_10 v19_11 v26 v30 v33)
          (fun r => iprop(⌜r.1 = (selOf ⟨v4, v5, v19_8, v19_9, v19_10, v19_11, v26, v30, v33⟩ X).2
              ∧ k1_pay1 r.2.1 r.2.2 = wOf (selOf ⟨v4, v5, v19_8, v19_9, v19_10, v19_11, v26, v30, v33⟩ X).1⌝ ∗ ∃ g5, At c arg5 g5)) := by
  rw [k1_part2_eq_skeleton]
  unfold k1_part2_skel
  iintro H5
  have hf := fold_st3 (F := F) ⟨v4, v5, v19_8, v19_9, v19_10, v19_11, v26, v30, v33⟩
  by_cases hb' : ovf (st3 (F := F) ⟨v4, v5, v19_8, v19_9, v19_10, v19_11, v26, v30, v33⟩ k1_t3_loop.trips) = 1#1
  · rw [selOf_pos _ _ hb']
    rw [← hf] at hb'
    let L := loop4 (F := F) c i arg1 harg1 arg2 harg2 arg3 harg3 arg4 harg4 arg5 harg5 v4 v5 v19_8 v19_9 v19_10 v19_11 v26 v30 v33 X
    sl_exec
    sl_step
    isplitr; · ipureintro; exact ⟨rfl, rfl⟩
    iexists _; iexact H5
  · rw [selOf_neg _ _ hb', ← hf]
    rw [← hf] at hb'
    sl_exec
    sl_step
    isplitr; · ipureintro; exact ⟨rfl, rfl⟩
    iexists _; iexact H5

omit v4 v5 v19_8 v19_9 v19_10 v19_11 v26 v30 v33
/-- The two stores at the end. -/
theorem tail1 (f3 : BufTy.Contents (Elt F) arg3.view.ty) (f4 : BufTy.Contents (Elt F) arg4.view.ty)
    (w1 : IVec S256x32 32) (w2 w3 : FVec F S256x32 .f32) :
    iprop(At c arg3 f3 ∗ At c arg4 f4)
      ⊢ wp frame (wpE (defs₀ (F := F)) Variants.none (c : Thread nD τ) none) Set.univ
          (do
            let v80 : Vec F S256x32 .f32 ← Prog.lift (.load arg4 (Rect.unit (s := S256x32) ![0, 0] S256x32.size inb_S256x32_S256x32_0_0).toLoadRect (View.loadsAt_vmem h_S256x32))
            Prog.lift (.store arg4 (Rect.unit (s := S256x32) ![0, 0] S256x32.size inb_S256x32_S256x32_0_0) (k1_pay1 w2 w3) Finset.univ (View.stores_vmem_bits_univ h_S256x32 rfl) (.inl rfl))
            let v81 : Vec F S256x32 .i32 ← Prog.lift (.load arg3 (Rect.unit (s := S256x32) ![0, 0] S256x32.size inb_S256x32_S256x32_0_0).toLoadRect (View.loadsAt_vmem h_S256x32))
            Prog.lift (.store arg3 (Rect.unit (s := S256x32) ![0, 0] S256x32.size inb_S256x32_S256x32_0_0) w1 Finset.univ (View.stores_vmem_bits_univ h_S256x32 rfl) (.inl rfl))
            pure ⟨⟩ : Prog (TpuEff nD τ sig (Elt F) Λ₀ .tc) PUnit)
          (fun _ => iprop((∃ g3, ⌜arg3.view.read (Elt F) g3 = w1⌝ ∗ At c arg3 g3)
            ∗ (∃ g4, ⌜arg4.view.read (Elt F) g4 = k1_pay1 w2 w3⌝ ∗ At c arg4 g4))) := by
  iintro ⟨H3, H4⟩
  sl_exec
  sl_step
  isplitl [H3]
  · iexists _; isplitr; swap; · iexact H3
    ipureintro
    exact View.read_writes_full _ _ _ _ _
  iexists _; isplitr; swap; · iexact H4
  ipureintro
  exact View.read_writes_full _ _ _ _ _

/-- The whole second body. -/
theorem body1 (f1 : BufTy.Contents (Elt F) arg1.view.ty) (f2 : BufTy.Contents (Elt F) arg2.view.ty)
    (f3 : BufTy.Contents (Elt F) arg3.view.ty) (f4 : BufTy.Contents (Elt F) arg4.view.ty)
    (f5 : BufTy.Contents (Elt F) arg5.view.ty) :
    iprop(At c arg1 f1 ∗ At c arg2 f2 ∗ At c arg3 f3 ∗ At c arg4 f4 ∗ At c arg5 f5)
      ⊢ wp frame (wpE (defs₀ (F := F)) Variants.none (c : Thread nD τ) none) Set.univ
          (cc1__topk_kernel (F := F) i arg1 harg1 arg2 harg2 arg3 harg3 arg4 harg4 arg5 harg5)
          (fun _ => iprop(At c arg1 f1 ∗ At c arg2 f2
            ∗ (∃ g3, ⌜arg3.view.read (Elt F) g3 = (sel (arg1.view.read (Elt F) f1) (arg2.view.read (Elt F) f2)).2⌝ ∗ At c arg3 g3)
            ∗ (∃ g4, ⌜arg4.view.read (Elt F) g4 = wOf (sel (arg1.view.read (Elt F) f1) (arg2.view.read (Elt F) f2)).1⌝ ∗ At c arg4 g4)
            ∗ (∃ g5, At c arg5 g5))) := by
  rw [cc1__topk_kernel_eq_skeleton]
  unfold cc1__topk_kernel_skel
  iintro ⟨H1, H2, H3, H4, H5⟩
  rw [wp_bind]
  iapply (wp_wand_r Idealize.ShloMosaic.frame (wpE (defs₀ (F := F)) Variants.none (c : Thread nD τ) none) Set.univ)
  isplitl [H1 H2 H5]
  · iapply (run1 c i arg1 harg1 arg2 harg2 arg3 harg3 arg4 harg4 arg5 harg5 f1 f2 f5)
    isplitl [H1]; · iexact H1
    isplitl [H2]; · iexact H2
    iexact H5
  iintro %r ⟨%hr, H1, H2, H5⟩
  rw [sel_of _ _ r hr]
  clear hr
  generalize scr (arg1.view.read (Elt F) f1) (arg2.view.read (Elt F) f2) = X
  obtain ⟨w4, w5, w8, w9, w10, w11, w26, w30, w33⟩ := r
  rw [wp_bind]
  iapply (wp_wand_r Idealize.ShloMosaic.frame (wpE (defs₀ (F := F)) Variants.none (c : Thread nD τ) none) Set.univ)
  isplitl [H5]
  · iapply (run2 c i arg1 harg1 arg2 harg2 arg3 harg3 arg4 harg4 arg5 harg5 w4 w5 w8 w9 w10 w11 w26 w30 w33 X)
    iexact H5
  iintro %r ⟨%hr2, H5⟩
  obtain ⟨s1, s2, s3⟩ := r
  obtain ⟨hI, hW⟩ := hr2
  dsimp only at hI hW ⊢
  rw [← hI, ← hW]
  iapply (wp_wand_r Idealize.ShloMosaic.frame (wpE (defs₀ (F := F)) Variants.none (c : Thread nD τ) none) Set.univ)
  isplitl [H3 H4]
  · iapply (tail1 c arg3 arg4 f3 f4 s1 s2 s3)
    isplitl [H3]; · iexact H3
    iexact H4
  iintro %_ ⟨H3, H4⟩
  isplitl [H1]; · iexact H1
  isplitl [H2]; · iexact H2
  isplitl [H3]; · iexact H3
  isplitl [H4]; · iexact H4
  iexact H5

end One

end Cert.KernelIdeal.Body

end
-- ==== Proof.Run.lean ====
/-
  The whole program run: the two kernel calls as regions of the main function, what they leave in their output arrays,
  and the run from any start memory to an end where the arguments are unchanged and the two results are the host's
  operations of what the second call left.
-/
module

public import proofs.«01_k».proof.Proof.Body
public import proofs.«01_k».proof.Proof.Gen.KernelIdeal.Regions
public import proofs.«01_k».proof.Proof.Gen.KernelIdeal.Points
public import Idealize.ShloMosaic.Lib.Pipeline.RegionsLoop
public import Idealize.ShloMosaic.Lib.Pipeline.Value

@[expose] public section

set_option maxRecDepth 8192

noncomputable section

namespace Cert.KernelIdeal.Run

open Cert.KernelIdeal Cert.KernelIdeal.Gen Cert.KernelIdeal.Model
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg HostSeg RegionSeg)

variable {F : FTy → Type} [FloatOps F] [Named F]

local notation "𝕄" => MT nD τ sig Unit (Elt F) ℕ (UR sig nD τ) ℕ

/-- The contents of a core's buffers, core by core. -/
abbrev Ent : Type := (c : Dev nD) → (b : Ref sig .tc) → Buf (Elt F) ((c : Thread nD τ).loc b)

/-- The TensorCore's buffers of a valuation. -/
abbrev ent (W : Dev nD → Valuation τ sig (Elt F)) : Ent (F := F) := fun c b => W c b

/-- Nothing is owed between cores. -/
abbrev L : GSem nD τ sig → Finset Unit := fun _ => ∅
/-- So no level matters. -/
abbrev lv : GSem nD τ sig → Unit → ℕ := fun _ _ => 0

/-- Window `w`'s block of call 0 at point `t`, read off the arrays the call finds. -/
def blk0 (V : Ent (F := F)) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w`'s block of call 1 at point `t`, read off the arrays the call finds. -/
def blk1 (V : Ent (F := F)) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Call 0: each input block stays, the outputs hold the two projections of the input blocks. -/
def dat0 (V : Ent (F := F)) (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => k0_pay2 (blk0 V c 0 t) (blk0 V c 1 t) (blk0 V c 2 t)
    | ⟨6, _⟩ => k0_pay3 (blk0 V c 0 t) (blk0 V c 3 t) (blk0 V c 4 t)
  Φ _ := Pipeline.ΦA spec0 c
  q _ := fullShare
  owed _ := 0

section Zero

variable (V : Ent (F := F)) (c : Dev nD)

theorem A0 (w : Fin cfg0.W) : (dat0 V c).A w = V c (Pipeline.arrRef spec0 w) := by dsimp only [dat0]
theorem after0_0 (t : Fin cfg0.N) : (dat0 V c).after 0 t = blk0 V c 0 t := by dsimp only [dat0]
theorem after0_1 (t : Fin cfg0.N) : (dat0 V c).after 1 t = blk0 V c 1 t := by dsimp only [dat0]
theorem after0_2 (t : Fin cfg0.N) : (dat0 V c).after 2 t = blk0 V c 2 t := by dsimp only [dat0]
theorem after0_3 (t : Fin cfg0.N) : (dat0 V c).after 3 t = blk0 V c 3 t := by dsimp only [dat0]
theorem after0_4 (t : Fin cfg0.N) : (dat0 V c).after 4 t = blk0 V c 4 t := by dsimp only [dat0]
theorem after0_5 (t : Fin cfg0.N) : (dat0 V c).after 5 t = k0_pay2 (blk0 V c 0 t) (blk0 V c 1 t) (blk0 V c 2 t) := by dsimp only [dat0]
theorem after0_6 (t : Fin cfg0.N) : (dat0 V c).after 6 t = k0_pay3 (blk0 V c 0 t) (blk0 V c 3 t) (blk0 V c 4 t) := by dsimp only [dat0]

theorem before0_0 (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [A0]; try rfl) t d).trans
    (by unfold Dat.fetched Dat.blockOf blk0; rw [A0]; try rfl)
theorem before0_1 (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [A0]; try rfl) t d).trans
    (by unfold Dat.fetched Dat.blockOf blk0; rw [A0]; try rfl)
theorem before0_2 (t : Fin cfg0.N) (d) : (dat0 V c).before 2 t d = blk0 V c 2 t :=
  ((dat0 V c).before_in_eq_fetched 2 rfl (fun _ => rfl) (fun _ _ _ => rfl) (fun t => by rw [after0_2]; unfold Dat.blockOf blk0; rw [A0]; try rfl) t d).trans
    (by unfold Dat.fetched Dat.blockOf blk0; rw [A0]; try rfl)
theorem before0_3 (t : Fin cfg0.N) (d) : (dat0 V c).before 3 t d = blk0 V c 3 t :=
  ((dat0 V c).before_in_eq_fetched 3 rfl (fun _ => rfl) (fun _ _ _ => rfl) (fun t => by rw [after0_3]; unfold Dat.blockOf blk0; rw [A0]; try rfl) t d).trans
    (by unfold Dat.fetched Dat.blockOf blk0; rw [A0]; try rfl)
theorem before0_4 (t : Fin cfg0.N) (d) : (dat0 V c).before 4 t d = blk0 V c 4 t :=
  ((dat0 V c).before_in_eq_fetched 4 rfl (fun _ => rfl) (fun _ _ _ => rfl) (fun t => by rw [after0_4]; unfold Dat.blockOf blk0; rw [A0]; try rfl) t d).trans
    (by unfold Dat.fetched Dat.blockOf blk0; rw [A0]; try rfl)

theorem row0 (t : Fin cfg0.N) : defs₀ (F := F) .tc cfg0.body (cfg0.bodyArgs t (cfg0.slots t)) = bodyAt0 t := by
  unfold defs₀; rw [Defs.onTc_tc]

/-- What call 0's body takes at point `t`, -/
def pre0 (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def post0 (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound0 (t : Fin cfg0.N) :
    pre0 V c t ⊢ wp frame (wpE (defs₀ (F := F)) Variants.none (c : Thread nD τ) none) Set.univ (bodyAt0 t) (fun _ => post0 V c t) := by
  unfold pre0 post0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  unfold owns
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩, ⟨%d6, %f6, -, H6⟩⟩
  iapply (wp_wand_r Idealize.ShloMosaic.frame (wpE (defs₀ (F := F)) Variants.none (c : Thread nD τ) none) Set.univ)
  isplitl [H0 H1 H2 H3 H4 H5 H6]
  · iapply (Body.body0 c (grid0.coords t) _ _ _ _ _ _ _ _ _ _ _ _ _ _ f0 f1 f2 f3 f4 f5 f6)
    isplitl [H0]; · iexact H0
    isplitl [H1]; · iexact H1
    isplitl [H2]; · iexact H2
    isplitl [H3]; · iexact H3
    isplitl [H4]; · iexact H4
    isplitl [H5]; · iexact H5
    iexact H6
  iintro %u ⟨H0, H1, H2, H3, H4, ⟨%g5, %h5, H5⟩, ⟨%g6, %h6, H6⟩⟩
  rw [h0, h1, h2] at h5
  rw [h0, h3, h4] at h6
  isplitl [HΦ]; · iexact HΦ
  isplitl [Ho]; · iexact Ho
  isplitl [H0]
  · iexists f0; isplitr
    · ipureintro; exact h0
    · iexact H0
  isplitl [H1]
  · iexists f1; isplitr
    · ipureintro; exact h1
    · iexact H1
  isplitl [H2]
  · iexists f2; isplitr
    · ipureintro; exact h2
    · iexact H2
  isplitl [H3]
  · iexists f3; isplitr
    · ipureintro; exact h3
    · iexact H3
  isplitl [H4]
  · iexists f4; isplitr
    · ipureintro; exact h4
    · iexact H4
  isplitl [H5]
  · iexists g5; isplitr
    · ipureintro; exact h5
    · iexact H5
  iexists g6; isplitr
  · ipureintro; exact h6
  · iexact H6

theorem obligation0 : BodyObligation (dat0 (F := F) V c) (defs₀ (F := F)) Variants.none () Set.univ := fun t => by
  rw [bigSep_W0, bigSep_W0, row0]
  exact triple_restated (sound0 V c t) rfl .rfl fun _ => .rfl

end Zero

section One

variable (fi : Vec F S256x512 .f32 → Vec F S10240x512 .f32 → Vec F S256x32 .i32)
  (fw : Vec F S256x512 .f32 → Vec F S10240x512 .f32 → Vec F S256x32 .f32)

/-- Call 1: each input block stays, the outputs hold the two functions `fi`, `fw` of the input blocks. -/
def dat1 (V : Ent (F := F)) (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => fi (blk1 V c 0 t) (blk1 V c 1 t)
    | ⟨3, _⟩ => fw (blk1 V c 0 t) (blk1 V c 1 t)
  Φ _ := Pipeline.ΦA spec1 c
  q _ := fullShare
  owed _ := 0

variable (hi : ∀ x y, fi x y = (sel x y).2) (hw : ∀ x y, fw x y = wOf (sel x y).1)
variable (V : Ent (F := F)) (c : Dev nD)

theorem A1 (w : Fin cfg1.W) : (dat1 fi fw V c).A w = V c (Pipeline.arrRef spec1 w) := by dsimp only [dat1]
theorem after1_0 (t : Fin cfg1.N) : (dat1 fi fw V c).after 0 t = blk1 V c 0 t := by dsimp only [dat1]
theorem after1_1 (t : Fin cfg1.N) : (dat1 fi fw V c).after 1 t = blk1 V c 1 t := by dsimp only [dat1]
theorem after1_2 (t : Fin cfg1.N) : (dat1 fi fw V c).after 2 t = fi (blk1 V c 0 t) (blk1 V c 1 t) := by dsimp only [dat1]
theorem after1_3 (t : Fin cfg1.N) : (dat1 fi fw V c).after 3 t = fw (blk1 V c 0 t) (blk1 V c 1 t) := by dsimp only [dat1]

theorem before1_0 (t : Fin cfg1.N) (d) : (dat1 fi fw V c).before 0 t d = blk1 V c 0 t :=
  ((dat1 fi fw V c).before_in_eq_fetched 0 rfl (fun _ => rfl) (fun _ _ _ => rfl) (fun t => by rw [after1_0]; unfold Dat.blockOf blk1; rw [A1]; try rfl) t d).trans
    (by unfold Dat.fetched Dat.blockOf blk1; rw [A1]; try rfl)
theorem before1_1 (t : Fin cfg1.N) (d) : (dat1 fi fw V c).before 1 t d = blk1 V c 1 t :=
  ((dat1 fi fw V c).before_in_eq_fetched 1 rfl (fun _ => rfl) (fun _ _ _ => rfl) (fun t => by rw [after1_1]; unfold Dat.blockOf blk1; rw [A1]; try rfl) t d).trans
    (by unfold Dat.fetched Dat.blockOf blk1; rw [A1]; try rfl)

theorem row1 (t : Fin cfg1.N) : defs₀ (F := F) .tc cfg1.body (cfg1.bodyArgs t (cfg1.slots t)) = bodyAt1 t := by
  unfold defs₀; rw [Defs.onTc_tc]

/-- What call 1's body takes at point `t`, -/
def pre1 (t : Fin cfg1.N) : sProp 𝕄 :=
  iprop((dat1 fi fw V c).Φ t.castSucc ∗ (dat1 fi fw V c).owesAt () t.castSucc
    ∗ (∃ d, owns (c : Thread nD τ) (st1_0 t) fullShare ((dat1 fi fw V c).before 0 t d))
    ∗ (∃ d, owns (c : Thread nD τ) (st1_1 t) fullShare ((dat1 fi fw V c).before 1 t d))
    ∗ (∃ d, owns (c : Thread nD τ) (st1_2 t) fullShare ((dat1 fi fw V c).before 2 t d))
    ∗ (∃ d, owns (c : Thread nD τ) (st1_3 t) fullShare ((dat1 fi fw V c).before 3 t d)))

/-- and what it returns. -/
def post1 (t : Fin cfg1.N) : sProp 𝕄 :=
  iprop((dat1 fi fw V c).Φ t.succ ∗ (dat1 fi fw V c).owesAt () t.succ
    ∗ owns (c : Thread nD τ) (st1_0 t) fullShare ((dat1 fi fw V c).after 0 t)
    ∗ owns (c : Thread nD τ) (st1_1 t) fullShare ((dat1 fi fw V c).after 1 t)
    ∗ owns (c : Thread nD τ) (st1_2 t) fullShare ((dat1 fi fw V c).after 2 t)
    ∗ owns (c : Thread nD τ) (st1_3 t) fullShare ((dat1 fi fw V c).after 3 t))

theorem scratch_at (g : BufTy.Contents (Elt F) (Memref.whole cc1_scratch0).view.ty) :
    (Body.At c (Memref.whole cc1_scratch0) g : sProp 𝕄) = iprop(((c : Thread nD τ).loc cc1_scratch0) ↦{fullShare} g) := by
  unfold Body.At
  rw [(Memref.isWhole_whole cc1_scratch0).set_eq_univ]

include hi hw in
theorem sound1 (t : Fin cfg1.N) :
    pre1 fi fw V c t ⊢ wp frame (wpE (defs₀ (F := F)) Variants.none (c : Thread nD τ) none) Set.univ (bodyAt1 t) (fun _ => post1 fi fw V c t) := by
  unfold pre1 post1 bodyAt1
  simp only [before1_0, before1_1]
  rw [show (dat1 fi fw V c).Φ t.succ = (dat1 fi fw V c).Φ t.castSucc from rfl,
    show (dat1 fi fw V c).owesAt () t.succ = (dat1 fi fw V c).owesAt () t.castSucc from rfl,
    show (dat1 fi fw V c).Φ t.castSucc = Pipeline.ΦA spec1 c from rfl,
    after1_0, after1_1, after1_2, after1_3]
  unfold Pipeline.ΦA owns
  rw [scopedRest1_eq]
  iintro ⟨⟨⟨Z0, Z1, Z2, Z3, Z4, Z5, Z6, Z7, Z8, Z9, ⟨%f4, Hs⟩⟩, Hp⟩, Ho, ⟨%d0, %f0, %h0, H0⟩, ⟨%d1, %f1, %h1, H1⟩, ⟨%d2, %f2, -, H2⟩, ⟨%d3, %f3, -, H3⟩⟩
  iapply (wp_wand_r Idealize.ShloMosaic.frame (wpE (defs₀ (F := F)) Variants.none (c : Thread nD τ) none) Set.univ)
  isplitl [H0 H1 H2 H3 Hs]
  · iapply (Body.body1 c (grid1.coords t) _ _ _ _ _ _ _ _ (Memref.whole cc1_scratch0) (Memref.isWhole_whole _) f0 f1 f2 f3 f4)
    isplitl [H0]; · iexact H0
    isplitl [H1]; · iexact H1
    isplitl [H2]; · iexact H2
    isplitl [H3]; · iexact H3
    rw [scratch_at]
    iexact Hs
  iintro %u ⟨H0, H1, ⟨%g2, %h2, H2⟩, ⟨%g3, %h3, H3⟩, ⟨%g4, Hs⟩⟩
  rw [h0, h1, ← hi] at h2
  rw [h0, h1, ← hw] at h3
  ihave Hs := (Entails.of_eq (scratch_at c g4)) $$ Hs
  isplitl [Z0 Z1 Z2 Z3 Z4 Z5 Z6 Z7 Z8 Z9 Hs Hp]
  · isplitr [Hp]
    · isplitl [Z0]; · iexact Z0
      isplitl [Z1]; · iexact Z1
      isplitl [Z2]; · iexact Z2
      isplitl [Z3]; · iexact Z3
      isplitl [Z4]; · iexact Z4
      isplitl [Z5]; · iexact Z5
      isplitl [Z6]; · iexact Z6
      isplitl [Z7]; · iexact Z7
      isplitl [Z8]; · iexact Z8
      isplitl [Z9]; · iexact Z9
      iexists g4; iexact Hs
    iexact Hp
  isplitl [Ho]; · iexact Ho
  isplitl [H0]
  · iexists f0; isplitr
    · ipureintro; exact h0
    · iexact H0
  isplitl [H1]
  · iexists f1; isplitr
    · ipureintro; exact h1
    · iexact H1
  isplitl [H2]
  · iexists g2; isplitr
    · ipureintro; exact h2
    · iexact H2
  iexists g3; isplitr
  · ipureintro; exact h3
  · iexact H3

include hi hw in
theorem obligation1 : BodyObligation (dat1 (F := F) fi fw V c) (defs₀ (F := F)) Variants.none () Set.univ := fun t => by
  rw [bigSep_W1, bigSep_W1, row1]
  exact triple_restated (sound1 fi fw hi hw V c t) rfl .rfl fun _ => .rfl

end One

section Regions

variable (fi : Vec F S256x512 .f32 → Vec F S10240x512 .f32 → Vec F S256x32 .i32)
  (fw : Vec F S256x512 .f32 → Vec F S10240x512 .f32 → Vec F S256x32 .f32)
variable (hi : ∀ x y, fi x y = (sel x y).2) (hw : ∀ x y, fw x y = wOf (sel x y).1)

/-- The two calls' data: call 0 finds the arrays at `Wa`, call 1 at `Wb`. -/
def pdats (Wa Wb : Dev nD → Valuation τ sig (Elt F)) : (p : Fin 2) → (c : Dev nD) → Dat τ (Elt F) Unit ℕ (UR sig nD τ) ℕ (cfgs p) c
  | ⟨0, _⟩, c => dat0 (ent Wa) c
  | ⟨1, _⟩, c => dat1 fi fw (ent Wb) c

/-- What rides along beside the buffers: the generator's register, and nothing owed. -/
abbrev Rest (c : Dev nD) : sProp 𝕄 :=
  iprop((∃ r, prngReg c r) ∗ ∃ W, owes (c : Thread nD τ) (0 : CellTallies nD τ sig Unit) W)

set_option backward.isDefEq.respectTransparency.types false in
/-- Region 0: entered with the unscoped buffers at `V c`, left with its arrays at what the write-backs made them. -/
def reg0 (Wa Wb Wp : Dev nD → Valuation τ sig (Elt F))
    (hF : ∀ c w, (dat0 (ent Wa) c).arrAt w cfg0.N = Wp c (Pipeline.arrRef spec0 w))
    (hrest : ∀ c b, b ∉ Finset.univ.image (Pipeline.arrRef spec0) → Wp c b = Wa c b) :
    Pipeline.RegionSeg (pcfgs (F := F)) adm (pdats fi fw Wa Wb) () defs₀ Variants.none L lv 0 where
  win := launch0.win.to₀
  block_pos := launch0.block_pos
  stage_whole := launch0.stage_whole
  K := PEmpty
  osem k := k.elim
  ho := Pipeline.OwnSemFacts.none _
  hbody c := (obligation0 (ent Wa) c).loose
  hwaits := Pipeline.hwaits_of_owed_zero _ _ _ _ L lv 0 fun _ _ => rfl
  pre c := iprop(StableHlo.held (c : Thread nD τ) (Pipeline.ucRefs τ sig) (Wa c) ∗ Rest c)
  post c := iprop(StableHlo.held (c : Thread nD τ) (Pipeline.ucRefs τ sig) (Wp c) ∗ Rest c)
  X c := iprop(∃ r, prngReg c r)
  Y c := iprop(∃ r, prngReg c r)
  Z c := Pipeline.unscopedRest (Ix := Unit) (Name := ℕ) (U := UR sig nD τ) (Lvl := ℕ) spec0 c (ent Wa c)
  hentry c := by
    rw [Pipeline.ownSems0_none]
    have hsplit := Pipeline.arrays_of_unscopedBufs (p := 0) (pcfgs (F := F)) adm (pdats fi fw Wa Wb) launch0.win launch0.arr_whole c
      ((pdats fi fw Wa Wb 0 c).share_full fun _ => rfl) (ent Wa c) (fun _ => rfl)
    rw [Pipeline.unscopedBufs_held c (Wa c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats fi fw Wa Wb 0 c).Φ 0 = Pipeline.ΦA spec0 c from rfl]
    unfold Pipeline.ΦA
    iintro ⟨Hp, -, Hr⟩
    isplitl [Hr]; · iexact Hr
    iexact Hp
  hout c := by
    rw [Pipeline.ownSems0_none, show (pdats fi fw Wa Wb 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats fi fw Wa Wb) ((pdats fi fw Wa Wb 0 c).share_full fun _ => rfl) (ent Wa c) (ent Wp c)
      ((pdats fi fw Wa Wb 0 c).arrAt · cfg0.N) (hF c) (hrest c)
    rw [Pipeline.unscopedBufs_held c (Wp c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with the unscoped buffers at `V c`, left with its arrays at what the write-backs made them. -/
def reg1 (Wa Wb Wp : Dev nD → Valuation τ sig (Elt F))
    (hF : ∀ c w, (dat1 fi fw (ent Wb) c).arrAt w cfg1.N = Wp c (Pipeline.arrRef spec1 w))
    (hrest : ∀ c b, b ∉ Finset.univ.image (Pipeline.arrRef spec1) → Wp c b = Wb c b) :
    Pipeline.RegionSeg (pcfgs (F := F)) adm (pdats fi fw Wa Wb) () defs₀ Variants.none L lv 1 where
  win := launch1.win.to₀
  block_pos := launch1.block_pos
  stage_whole := launch1.stage_whole
  K := PEmpty
  osem k := k.elim
  ho := Pipeline.OwnSemFacts.none _
  hbody c := (obligation1 fi fw hi hw (ent Wb) c).loose
  hwaits := Pipeline.hwaits_of_owed_zero _ _ _ _ L lv 1 fun _ _ => rfl
  pre c := iprop(StableHlo.held (c : Thread nD τ) (Pipeline.ucRefs τ sig) (Wb c) ∗ Rest c)
  post c := iprop(StableHlo.held (c : Thread nD τ) (Pipeline.ucRefs τ sig) (Wp c) ∗ Rest c)
  X c := iprop(∃ r, prngReg c r)
  Y c := iprop(∃ r, prngReg c r)
  Z c := Pipeline.unscopedRest (Ix := Unit) (Name := ℕ) (U := UR sig nD τ) (Lvl := ℕ) spec1 c (ent Wb c)
  hentry c := by
    rw [Pipeline.ownSems0_none]
    have hsplit := Pipeline.arrays_of_unscopedBufs (p := 1) (pcfgs (F := F)) adm (pdats fi fw Wa Wb) launch1.win launch1.arr_whole c
      ((pdats fi fw Wa Wb 1 c).share_full fun _ => rfl) (ent Wb c) (fun _ => rfl)
    rw [Pipeline.unscopedBufs_held c (Wb c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats fi fw Wa Wb 1 c).Φ 0 = Pipeline.ΦA spec1 c from rfl]
    unfold Pipeline.ΦA
    iintro ⟨Hp, -, Hr⟩
    isplitl [Hr]; · iexact Hr
    iexact Hp
  hout c := by
    rw [Pipeline.ownSems0_none, show (pdats fi fw Wa Wb 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats fi fw Wa Wb) ((pdats fi fw Wa Wb 1 c).share_full fun _ => rfl) (ent Wb c) (ent Wp c)
      ((pdats fi fw Wa Wb 1 c).arrAt · cfg1.N) (hF c) (hrest c)
    rw [Pipeline.unscopedBufs_held c (Wp c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

section Whole

variable (m : (ℓ : Loc nD τ sig) → Buf (Elt F) ℓ)

/-- The buffers after call 0. -/
def W4 (c : Dev nD) : Valuation τ sig (Elt F) :=
  Function.update (Function.update (V3 m c) main_v3_0 ((dat0 (ent (V3 m)) c).arrAt 5 cfg0.N)) main_v3_1 ((dat0 (ent (V3 m)) c).arrAt 6 cfg0.N)

/-- The buffers after call 1. -/
def W5 (c : Dev nD) : Valuation τ sig (Elt F) :=
  Function.update (Function.update (W4 m c) main_v4_0 ((dat1 fi fw (ent (W4 m)) c).arrAt 2 cfg1.N)) main_v4_1 ((dat1 fi fw (ent (W4 m)) c).arrAt 3 cfg1.N)

/-- The buffers at the end. -/
def W6 (c : Dev nD) : Valuation τ sig (Elt F) := StableHlo.after hostOps2 (W5 fi fw m c)

theorem W4_out0 (c : Dev nD) : W4 m c main_v3_0 = (dat0 (ent (V3 m)) c).arrAt 5 cfg0.N := by
  unfold W4
  rw [Function.update_of_ne (StableHlo.devRef_ne_of_ne (by decide)), Function.update_self]
theorem W4_out1 (c : Dev nD) : W4 m c main_v3_1 = (dat0 (ent (V3 m)) c).arrAt 6 cfg0.N := by
  unfold W4
  rw [Function.update_self]
theorem W4_of (c : Dev nD) (r : Ref sig .tc) (h : r ∉ ([main_v3_0, main_v3_1] : List (Ref sig .tc))) : W4 m c r = V3 m c r := by
  unfold W4
  rw [Function.update_of_ne (StableHlo.devRef_ne_of_ne (by rintro rfl; exact h (by decide))),
    Function.update_of_ne (StableHlo.devRef_ne_of_ne (by rintro rfl; exact h (by decide)))]
theorem W5_out0 (c : Dev nD) : W5 fi fw m c main_v4_0 = (dat1 fi fw (ent (W4 m)) c).arrAt 2 cfg1.N := by
  unfold W5
  rw [Function.update_of_ne (StableHlo.devRef_ne_of_ne (by decide)), Function.update_self]
theorem W5_out1 (c : Dev nD) : W5 fi fw m c main_v4_1 = (dat1 fi fw (ent (W4 m)) c).arrAt 3 cfg1.N := by
  unfold W5
  rw [Function.update_self]
theorem W5_of (c : Dev nD) (r : Ref sig .tc) (h : r ∉ ([main_v4_0, main_v4_1] : List (Ref sig .tc))) : W5 fi fw m c r = W4 m c r := by
  unfold W5
  rw [Function.update_of_ne (StableHlo.devRef_ne_of_ne (by rintro rfl; exact h (by decide))),
    Function.update_of_ne (StableHlo.devRef_ne_of_ne (by rintro rfl; exact h (by decide)))]

/-- What the two calls leave, in the form the program's chain of items reads. -/
def outs : Outs (F := F) := fun J r c => if J = 4 then W4 m c r else W5 fi fw m c r

theorem V4_eq (c : Dev nD) : V4 m (outs fi fw m) c = W4 m c := by
  unfold V4 outs
  simp only [if_true, W4_out0, W4_out1]
  rfl

theorem V5_eq (c : Dev nD) : V5 m (outs fi fw m) c = W5 fi fw m c := by
  unfold V5
  rw [V4_eq]
  unfold outs
  simp only [show ¬ ((5 : ℕ) = 4) by decide, if_false, W5_out0, W5_out1]
  rfl

theorem V6_eq (c : Dev nD) : V6 m (outs fi fw m) c = W6 fi fw m c := by
  unfold V6 W6; rw [V5_eq]

theorem arr0 (c : Dev nD) (w : Fin cfg0.W) : (dat0 (ent (V3 m)) c).arrAt w cfg0.N = W4 m c (Pipeline.arrRef spec0 w) := by
  fin_cases w
  · exact ((dat0 (ent (V3 m)) c).arrAt_in 0 rfl _).trans ((A0 _ c 0).trans (W4_of m c main_v0 (by decide)).symm)
  · exact ((dat0 (ent (V3 m)) c).arrAt_in 1 rfl _).trans ((A0 _ c 1).trans (W4_of m c main_arg1 (by decide)).symm)
  · exact ((dat0 (ent (V3 m)) c).arrAt_in 2 rfl _).trans ((A0 _ c 2).trans (W4_of m c main_v1 (by decide)).symm)
  · exact ((dat0 (ent (V3 m)) c).arrAt_in 3 rfl _).trans ((A0 _ c 3).trans (W4_of m c main_arg3 (by decide)).symm)
  · exact ((dat0 (ent (V3 m)) c).arrAt_in 4 rfl _).trans ((A0 _ c 4).trans (W4_of m c main_v2 (by decide)).symm)
  · exact (W4_out0 m c).symm
  · exact (W4_out1 m c).symm

theorem arr1 (c : Dev nD) (w : Fin cfg1.W) : (dat1 fi fw (ent (W4 m)) c).arrAt w cfg1.N = W5 fi fw m c (Pipeline.arrRef spec1 w) := by
  fin_cases w
  · exact ((dat1 fi fw (ent (W4 m)) c).arrAt_in 0 rfl _).trans ((A1 fi fw _ c 0).trans (W5_of fi fw m c main_v3_0 (by decide)).symm)
  · exact ((dat1 fi fw (ent (W4 m)) c).arrAt_in 1 rfl _).trans ((A1 fi fw _ c 1).trans (W5_of fi fw m c main_v3_1 (by decide)).symm)
  · exact (W5_out0 fi fw m c).symm
  · exact (W5_out1 fi fw m c).symm

theorem rest0 (c : Dev nD) (b : Ref sig .tc) (h : b ∉ Finset.univ.image (Pipeline.arrRef spec0)) : W4 m c b = V3 m c b :=
  W4_of m c b (by
    intro hb
    refine h ?_
    simp only [List.mem_cons, List.not_mem_nil, or_false] at hb
    rcases hb with rfl | rfl <;> decide)

theorem rest1 (c : Dev nD) (b : Ref sig .tc) (h : b ∉ Finset.univ.image (Pipeline.arrRef spec1)) : W5 fi fw m c b = W4 m c b :=
  W5_of fi fw m c b (by
    intro hb
    refine h ?_
    simp only [List.mem_cons, List.not_mem_nil, or_false] at hb
    rcases hb with rfl | rfl <;> decide)

set_option backward.isDefEq.respectTransparency.types false in
include hi hw in
/-- The run: every argument ends as it started, the two results hold the host's operations of what call 1 left, and every
    semaphore ends at zero. -/
theorem run (ρ : Dev nD → PrngReg) :
    θ_run defs (onTc (τ := τ) (main (F := F))) ⟨m, fun _ => 0, ρ⟩ (fun r => (∀ c : Dev nD,
      r.2.mem ((c.tc : Thread nD τ).loc main_v13) = W6 fi fw m c main_v13
      ∧ r.2.mem ((c.tc : Thread nD τ).loc main_v14) = W6 fi fw m c main_v14
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  let pd := pdats fi fw (V3 m) (W4 m)
  let R0 := reg0 fi fw (V3 m) (W4 m) (W4 m) (arr0 m) (rest0 m)
  let R1 := reg1 fi fw hi hw (V3 m) (W4 m) (W5 fi fw m) (arr1 fi fw m) (rest1 fi fw m)
  let E : Fin 3 → Dev nD → sProp 𝕄 := fun _ c => Rest c
  have h5 : ∀ c : Dev nD, iprop(StableHlo.held (c : Thread nD τ) (Pipeline.ucRefs τ sig) (W5 fi fw m c) ∗ Rest c)
      ⊢ (iprop(StableHlo.held (c : Thread nD τ) (Pipeline.ucRefs τ sig) (V5 m (outs fi fw m) c) ∗ Rest c) : sProp 𝕄) := fun c => by
    rw [V5_eq]
  have h6 : ∀ c : Dev nD, iprop(StableHlo.held (c : Thread nD τ) (Pipeline.ucRefs τ sig) (V6 m (outs fi fw m) c) ∗ Rest c)
      ⊢ (iprop(StableHlo.held (c : Thread nD τ) (Pipeline.ucRefs τ sig) (W6 fi fw m c) ∗ ∃ W, owes (c : Thread nD τ) (0 : CellTallies nD τ sig Unit) W) : sProp 𝕄) := fun c => by
    rw [V6_eq]; exact sep_mono .rfl (by iintro ⟨-, H⟩; iexact H)
  refine Pipeline.θ_run_regions_kit_dev_sems (pcfgs (F := F)) adm pd () cellOf_inj emb₁ defs₀ Variants.none L lv m ρ main
    (segs m (outs fi fw m) Variants.none L lv E () pd R0 R1)
    (fun c Q => by
      rewrite [main_chain c, Seg.run_eq_chain,
        show (segs m (outs fi fw m) Variants.none L lv E () pd R0 R1 c).map Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) (fun _ _ => rfl)
    (fun _ => BI.emp) (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (W6 fi fw m c))
    (hch := fun c => ⟨.rfl, .rfl, .rfl, .rfl, .rfl, h5 c, h6 c⟩)
    (hinit := ?_) (QY := fun c s => s.mem ((c.tc : Thread nD τ).loc main_v13) = W6 fi fw m c main_v13
      ∧ s.mem ((c.tc : Thread nD τ).loc main_v14) = W6 fi fw m c main_v14
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
    (hfin := fun c s' => ?_) (hQ := fun _ h hz => ⟨h, funext fun g => hz g (.inr (regions_no_unscoped g.2))⟩)
  · refine Pipeline.initEach L lv fun c => ?_
    rw [show unscopedBufs c (fun b => m ((c.tc : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (W6 fi fw m c) s') $$ [Hh HSI]
    · isplitl [Hh] <;> iassumption
    icases Hr with ⟨%h, HSI⟩
    imodintro
    isplitr
    · ipureintro
      have ha : ∀ r : Ref sig .tc, V6 m (outs fi fw m) c r = m ((c : Thread nD τ).loc r) →
          W6 fi fw m c r = m ((c : Thread nD τ).loc r) :=
        fun r hr => by rw [← V6_eq]; exact hr
      exact ⟨h (Proc.devRef .tc main_v13) (Finset.mem_filter.mpr ⟨StableHlo.devRef_mem_tcRefs main_v13, by decide⟩),
        h (Proc.devRef .tc main_v14) (Finset.mem_filter.mpr ⟨StableHlo.devRef_mem_tcRefs main_v14, by decide⟩),
        (h (Proc.devRef .tc main_arg0) (Finset.mem_filter.mpr ⟨StableHlo.devRef_mem_tcRefs main_arg0, by decide⟩)).trans (ha main_arg0 (V6_main_arg0 m _ c)),
        (h (Proc.devRef .tc main_arg1) (Finset.mem_filter.mpr ⟨StableHlo.devRef_mem_tcRefs main_arg1, by decide⟩)).trans (ha main_arg1 (V6_main_arg1 m _ c)),
        (h (Proc.devRef .tc main_arg2) (Finset.mem_filter.mpr ⟨StableHlo.devRef_mem_tcRefs main_arg2, by decide⟩)).trans (ha main_arg2 (V6_main_arg2 m _ c)),
        (h (Proc.devRef .tc main_arg3) (Finset.mem_filter.mpr ⟨StableHlo.devRef_mem_tcRefs main_arg3, by decide⟩)).trans (ha main_arg3 (V6_main_arg3 m _ c)),
        (h (Proc.devRef .tc main_arg4) (Finset.mem_filter.mpr ⟨StableHlo.devRef_mem_tcRefs main_arg4, by decide⟩)).trans (ha main_arg4 (V6_main_arg4 m _ c))⟩
    · iexact HSI

end Whole

end Regions

end Cert.KernelIdeal.Run

end
-- ==== Proof.Frames.lean ====
/-
  The frames: each of the three programs ends, leaves its arguments as they were and every semaphore counter at zero.
  And the named constant is the one the rewrite rule states.
-/
module

public import proofs.«01_k».proof.Defs
public import proofs.«01_k».proof.Proof.Run
public import proofs.«01_k».proof.Proof.RunBits
public import proofs.«01_k».proof.Proof.Gen.ReferenceIdeal
public import proofs.«01_k».proof.Proof.Gen.ReferenceIdeal.Run

@[expose] public section

noncomputable section

namespace Cert.Frames

open Idealize.ShloMosaic Idealize.SL.Sem

/-- The kernel's frame. -/
theorem kernel (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r =>
      (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) := by
  obtain ⟨fi, hi⟩ : ∃ fi : Vec Bits Cert.Kernel.S256x512 .f32 → Vec Bits Cert.Kernel.S10240x512 .f32 → Vec Bits Cert.Kernel.S256x32 .i32,
      ∀ x y, fi x y = (Cert.Kernel.Model.sel x y).2 := ⟨_, fun _ _ => rfl⟩
  obtain ⟨fw, hw⟩ : ∃ fw : Vec Bits Cert.Kernel.S256x512 .f32 → Vec Bits Cert.Kernel.S10240x512 .f32 → Vec Bits Cert.Kernel.S256x32 .f32,
      ∀ x y, fw x y = Cert.Kernel.Model.wOf (Cert.Kernel.Model.sel x y).1 := ⟨_, fun _ _ => rfl⟩
  exact (θ_run Cert.Kernel.defs _ _).mono (fun _ h => ⟨fun c => (h.1 c).2.2, h.2⟩) (Cert.Kernel.Run.run fi fw hi hw m ρ)

/-- The idealized kernel's frame. -/
theorem kernelIdeal (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r =>
      (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) := by
  obtain ⟨fi, hi⟩ : ∃ fi : Vec Ideal Cert.KernelIdeal.S256x512 .f32 → Vec Ideal Cert.KernelIdeal.S10240x512 .f32 → Vec Ideal Cert.KernelIdeal.S256x32 .i32,
      ∀ x y, fi x y = (Cert.KernelIdeal.Model.sel x y).2 := ⟨_, fun _ _ => rfl⟩
  obtain ⟨fw, hw⟩ : ∃ fw : Vec Ideal Cert.KernelIdeal.S256x512 .f32 → Vec Ideal Cert.KernelIdeal.S10240x512 .f32 → Vec Ideal Cert.KernelIdeal.S256x32 .f32,
      ∀ x y, fw x y = Cert.KernelIdeal.Model.wOf (Cert.KernelIdeal.Model.sel x y).1 := ⟨_, fun _ _ => rfl⟩
  exact (θ_run Cert.KernelIdeal.defs _ _).mono (fun _ h => ⟨fun c => (h.1 c).2.2, h.2⟩) (Cert.KernelIdeal.Run.run fi fw hi hw m ρ)

/-- The reference's frame. -/
theorem referenceIdeal (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono
    (fun r h => ⟨fun c => (h c).2.2, sem_eq_zero_of_no_sems (by decide) r.2⟩)
    (Cert.ReferenceIdeal.Value.run (F := Ideal) m ρ)

/-- The mask's constant read as −∞. -/
theorem preserves : IdealRules.named_const.Statement Cert.KernelIdeal.κ "neg" .f32 0xFF61B1E6#32 ⊥ :=
  IdealRules.named_const.statement Cert.KernelIdeal.κ "neg" .f32 0xFF61B1E6#32 ⊥ rfl

end Cert.Frames

end
-- ==== Proof.Folds.lean ====
/-
  Greatest values, least positions and small words: what the reductions of the kernel find.
-/
module

public import Idealize.ShloMosaic.Lib.Pointwise
public import Idealize.ShloMosaic.Lib.ValueIdx
public import Idealize.ShloMosaic.Lib.WordCmp

@[expose] public section

noncomputable section

namespace Cert.Folds

open Idealize.ShloMosaic Idealize.SL.Sem

/-- The word of −∞. -/
theorem negInf : Ideal.ofBits .f32 0xFF800000#32 = (⊥ : EReal) := by
  simp [Ideal.ofBits, Ideal.ieee]

theorem toInt_minsi (x y : BitVec 32) : (IntOp.minsi x y).toInt = min x.toInt y.toInt := by
  unfold IntOp.minsi
  split
  · rename_i h
    rw [BitVec.slt_iff_toInt_lt] at h
    omega
  · rename_i h
    rw [BitVec.slt_iff_toInt_lt] at h
    omega

theorem toInt_maxsi (x y : BitVec 32) : (IntOp.maxsi x y).toInt = max x.toInt y.toInt := by
  unfold IntOp.maxsi
  split
  · rename_i h
    rw [BitVec.slt_iff_toInt_lt] at h
    omega
  · rename_i h
    rw [BitVec.slt_iff_toInt_lt] at h
    omega

section
variable {ι : Type} [Fintype ι]

theorem le_foldMax (g : ι → EReal) (i : ι) : g i ≤ Finset.fold max (⊥ : EReal) g Finset.univ := by
  classical
  exact Finset.le_sup (f := g) (Finset.mem_univ i)

theorem exists_foldMax [Nonempty ι] (g : ι → EReal) : ∃ i, g i = Finset.fold max (⊥ : EReal) g Finset.univ := by
  obtain ⟨i, -, h⟩ := Finset.exists_mem_eq_sup (Finset.univ : Finset ι) Finset.univ_nonempty g
  exact ⟨i, h.symm⟩

theorem foldMin_le (init : BitVec 32) (w : ι → BitVec 32) (i : ι) :
    (Finset.fold IntOp.minsi init w Finset.univ).toInt ≤ (w i).toInt := by
  classical
  have key : ∀ s : Finset ι, i ∈ s → (Finset.fold IntOp.minsi init w s).toInt ≤ (w i).toInt := fun s => by
    induction s using Finset.induction_on with
    | empty => exact fun h => absurd h (Finset.notMem_empty i)
    | insert a s ha ih =>
      intro h
      rw [Finset.fold_insert ha]
      rw [toInt_minsi]
      rcases Finset.mem_insert.mp h with rfl | hm
      · omega
      · have := ih hm
        omega
  exact key _ (Finset.mem_univ i)

theorem foldMin_mem (init : BitVec 32) (w : ι → BitVec 32) :
    Finset.fold IntOp.minsi init w Finset.univ = init ∨ ∃ i, Finset.fold IntOp.minsi init w Finset.univ = w i := by
  classical
  have key : ∀ s : Finset ι, Finset.fold IntOp.minsi init w s = init ∨ ∃ i, Finset.fold IntOp.minsi init w s = w i := fun s => by
    induction s using Finset.induction_on with
    | empty => exact Or.inl rfl
    | insert a s ha ih =>
      rw [Finset.fold_insert ha]
      unfold IntOp.minsi
      split
      · exact Or.inr ⟨a, rfl⟩
      · exact ih
  exact key _

theorem le_foldMaxsi (init : BitVec 32) (w : ι → BitVec 32) (i : ι) :
    (w i).toInt ≤ (Finset.fold IntOp.maxsi init w Finset.univ).toInt := by
  classical
  have key : ∀ s : Finset ι, i ∈ s → (w i).toInt ≤ (Finset.fold IntOp.maxsi init w s).toInt := fun s => by
    induction s using Finset.induction_on with
    | empty => exact fun h => absurd h (Finset.notMem_empty i)
    | insert a s ha ih =>
      intro h
      rw [Finset.fold_insert ha]
      rw [toInt_maxsi]
      rcases Finset.mem_insert.mp h with rfl | hm
      · omega
      · have := ih hm
        omega
  exact key _ (Finset.mem_univ i)

/-- The least position among the entries that have the greatest value is the position of one of them. -/
theorem exists_hit [Nonempty ι] (g : ι → EReal) (C : ι → BitVec 32) (hC : ∀ i, (C i).toInt < 1073741824) (m : EReal)
    (hm : m = Finset.fold max (⊥ : EReal) g Finset.univ) :
    ∃ i, g i = m ∧ Finset.fold IntOp.minsi 2147483647#32 (fun x => if g x = m then C x else 1073741824#32) Finset.univ = C i := by
  obtain ⟨i, hi⟩ := exists_foldMax g
  rw [← hm] at hi
  have hle := foldMin_le 2147483647#32 (fun x => if g x = m then C x else 1073741824#32) i
  simp only [hi, if_true] at hle
  have hlt := lt_of_le_of_lt hle (hC i)
  rcases foldMin_mem 2147483647#32 (fun x => if g x = m then C x else 1073741824#32) with h | ⟨x, h⟩
  · rw [h] at hlt
    exact absurd hlt (by decide)
  · by_cases hx : g x = m
    · exact ⟨x, hx, by rw [h, if_pos hx]⟩
    · rw [h, if_neg hx] at hlt
      exact absurd hlt (by decide)

end

/-! Words of small numbers. -/

theorem toInt_ofNat {n : ℕ} (h : n < 1073741824) : (BitVec.ofNat 32 n).toInt = n := by
  rw [BitVec.toInt_eq_toNat_of_lt] <;> rw [BitVec.toNat_ofNat] <;> omega

theorem ofNat_inj {a b : ℕ} (ha : a < 1073741824) (hb : b < 1073741824) (h : BitVec.ofNat 32 a = BitVec.ofNat 32 b) : a = b := by
  have := congrArg BitVec.toInt h
  rw [toInt_ofNat ha, toInt_ofNat hb] at this
  omega

theorem iv_eq (k : ℕ) : Scf.iv 0#32 1#32 k = BitVec.ofNat 32 k := by
  rw [Scf.iv_eq_ofInt]
  simp

theorem addi_ofNat (a b : ℕ) : IntOp.addi (BitVec.ofNat 32 a) (BitVec.ofNat 32 b) = BitVec.ofNat 32 (a + b) := by
  unfold IntOp.addi
  exact (BitVec.ofNat_add a b).symm

theorem muli_ofNat (a b : ℕ) : IntOp.muli (BitVec.ofNat 32 a) (BitVec.ofNat 32 b) = BitVec.ofNat 32 (a * b) := by
  unfold IntOp.muli
  exact (BitVec.ofNat_mul a b).symm

theorem select_eq {α : Type} (a b : BitVec 32) (x y : α) : Scalar.select (IntOp.cmpi .eq a b) x y = if a = b then x else y := by
  simp only [IntOp.cmpi]
  rw [WordCmp.select_ofBool]
  simp

theorem select_slt {α : Type} {a b : ℕ} (ha : a < 1073741824) (hb : b < 1073741824) (x y : α) :
    Scalar.select (IntOp.cmpi .slt (BitVec.ofNat 32 a) (BitVec.ofNat 32 b)) x y = if a < b then x else y := by
  simp only [IntOp.cmpi]
  rw [WordCmp.select_ofBool]
  simp [BitVec.slt_iff_toInt_lt, toInt_ofNat ha, toInt_ofNat hb]

end Cert.Folds
-- ==== Proof.Pay.lean ====
/-
  The kernel's steps read at one index, with real numbers for floats.
-/
module

public import proofs.«01_k».proof.Proof.Model
public import proofs.«01_k».proof.Proof.Folds
public import Idealize.ShloMosaic.Lib.Pointwise
public import Idealize.ShloMosaic.Lib.ValueIdx

@[expose] public section

noncomputable section

namespace Cert.KernelIdeal.Pay

open Cert.KernelIdeal Cert.KernelIdeal.Gen Cert.KernelIdeal.Model Cert.Folds
open Idealize.ShloMosaic Idealize.SL.Sem

theorem neg_eq : Named.named κ "neg" 0xFF61B1E6#32 = (⊥ : Ideal .f32) :=
  IdealRules.named_const.ideal_named_scalar _ _ _ _ rfl

theorem trips1 : k1_t1_loop.trips = 10 := by decide +kernel
theorem trips2 : k1_t2_loop.trips = 80 := by decide +kernel
theorem trips3 : k1_t3_loop.trips = 32 := by decide +kernel
theorem trips4 : k1_t4_loop.trips = 32 := by decide +kernel

/-! The scores. -/

theorem off1_0 (k : Fin k1_t1_loop.trips) : k1_off1 k 0 = 1024 * k.val := by
  have hk : k.val < 10 := lt_of_lt_of_eq k.isLt trips1
  have h : k1_off1 k 0 = (IntOp.muli (Scf.iv 0#32 1#32 k.val) 1024#32).toNat := rfl
  rw [h, iv_eq, show (1024#32 : BitVec 32) = BitVec.ofNat 32 1024 from rfl, muli_ofNat, BitVec.toNat_ofNat]
  omega

theorem off3_1 (k : Fin k1_t2_loop.trips) : k1_off3 k 1 = 128 * k.val := by
  have hk : k.val < 80 := lt_of_lt_of_eq k.isLt trips2
  have h : k1_off3 k 1 = (IntOp.muli (Scf.iv 0#32 1#32 k.val) 128#32).toNat := rfl
  rw [h, iv_eq, show (128#32 : BitVec 32) = BitVec.ofNat 32 128 from rfl, muli_ofNat, BitVec.toNat_ofNat]
  omega

theorem tailRows_apply (et : Vec Ideal S10240x512 .f32) (k : Fin k1_t1_loop.trips) (a : Fin 1024) (b : Fin 512)
    (h : 1024 * k.val + a.val < 10240) :
    tailRows et k (ix2 a b) = et (ix2 ⟨1024 * k.val + a.val, h⟩ b) := by
  have e0 := off1_0 k
  have e1 : k1_off1 k 1 = 0 := rfl
  pointwise [tailRows]
  exact congrArg et (congrArg₂ ix2 (Fin.ext (congrArg (· + a.val) e0)) (Fin.ext ((congrArg (· + b.val) e1).trans (Nat.zero_add _))))

theorem laneCols_apply (X : Vec Ideal S256x10240 .f32) (k : Fin k1_t2_loop.trips) (a : Fin 256) (b : Fin 128)
    (h : 128 * k.val + b.val < 10240) :
    laneCols X k (ix2 a b) = X (ix2 a ⟨128 * k.val + b.val, h⟩) := by
  have e0 := off3_1 k
  have e1 : k1_off3 k 0 = 0 := rfl
  pointwise [laneCols]
  exact congrArg X (congrArg₂ ix2 (Fin.ext ((congrArg (· + a.val) e1).trans (Nat.zero_add _))) (Fin.ext (congrArg (· + b.val) e0)))

theorem pay2_apply (v0 : Vec Ideal S256x512 .f32) (k : Fin k1_t1_loop.trips) (v : Vec Ideal S1024x512 .f32) (a : Fin 256) (b : Fin 1024) :
    k1_pay2 (F := Ideal) v0 k v (ix2 a b) = if 1024 * k.val + b.val < 10000 then (∑ q : Fin 512, v0 (ix2 a q) * v (ix2 b q)) * Ideal.ofBits .f32 0x3D3504F3#32 else ⊥ := by
  have hk : k.val < 10 := lt_of_lt_of_eq k.isLt trips1
  pointwise [k1_pay2]
  rw [neg_eq, iv_eq]
  have e : IntOp.addi (Scalar.muli (BitVec.ofNat 32 k.val) 1024#32) (BitVec.ofNat 32 b.val) = BitVec.ofNat 32 (1024 * k.val + b.val) := by
    rw [show Scalar.muli (BitVec.ofNat 32 k.val) 1024#32 = IntOp.muli (BitVec.ofNat 32 k.val) (BitVec.ofNat 32 1024) from rfl, muli_ofNat,
      addi_ofNat, Nat.mul_comm]
  rw [e]
  exact select_slt (by omega) (by decide) _ _

theorem scr_apply (eh : Vec Ideal S256x512 .f32) (et : Vec Ideal S10240x512 .f32) (a : Fin 256) (y : Fin 10240) :
    scr eh et (ix2 a y) = if y.val < 10000 then (∑ q : Fin 512, eh (ix2 a q) * et (ix2 y q)) * Ideal.ofBits .f32 0x3D3504F3#32 else ⊥ := by
  have e : 1024 * (y.val / 1024) + y.val % 1024 = y.val := by omega
  have hy := y.isLt
  have h0 : scr eh et (ix2 a y) = k1_pay2 eh ⟨y.val / 1024, trip1_lt (ix2 a y)⟩ (tailRows et ⟨y.val / 1024, trip1_lt (ix2 a y)⟩)
      (ix2 a ⟨y.val % 1024, Nat.mod_lt _ (by decide)⟩) := by
    unfold scr
    congr 1
    funext q
    match q with
    | ⟨0, _⟩ => rfl
    | ⟨1, _⟩ => rfl
  rw [h0, pay2_apply]
  simp only [e]
  refine if_congr Iff.rfl ?_ rfl
  congr 1
  refine Finset.sum_congr rfl fun q _ => ?_
  rw [tailRows_apply _ _ _ _ (lt_of_eq_of_lt e hy)]
  exact congrArg (fun z => eh (ix2 a q) * et (ix2 z q)) (Fin.ext e)

/-! The rounds of the selection loop. -/

theorem pay49_apply (a : FVec Ideal S768x256 .f32) (z : Fin 1) (r : Fin 256) :
    k1_pay49 (F := Ideal) a (ix2 z r) = Finset.fold max (⊥ : EReal) (fun x : Fin 768 => a (ix2 x r)) Finset.univ := by
  pointwise [k1_pay49]
  rw [negInf]

theorem pay50_apply (v5 v8 v9 v10 v11 v30 v33) (a : FVec Ideal S768x256 .f32) (z : Fin 1) (r : Fin 256) :
    k1_pay50 (F := Ideal) v5 v8 v9 v10 v11 v30 v33 a (ix2 z r)
      = Finset.fold IntOp.minsi 2147483647#32 (fun x : Fin 768 => if a (ix2 x r) = k1_pay49 a (ix2 0 r) then k1_pay46 v5 v8 v9 v10 v11 v30 v33 (ix2 x r) else 1073741824#32) Finset.univ := by
  generalize hq : k1_pay46 v5 v8 v9 v10 v11 v30 v33 = C
  pointwise [k1_pay50, hq]

theorem pay51_apply (v5 v8 v9 v10 v11 v30 v33) (a : FVec Ideal S768x256 .f32) (x : Fin 768) (r : Fin 256) :
    k1_pay51 (F := Ideal) v5 v8 v9 v10 v11 v30 v33 a (ix2 x r)
      = if k1_pay46 v5 v8 v9 v10 v11 v30 v33 (ix2 x r) = k1_pay50 v5 v8 v9 v10 v11 v30 v33 a (ix2 0 r) then ⊥ else a (ix2 x r) := by
  pointwise [k1_pay51]
  rw [neg_eq, select_eq]

theorem pay52_apply (k) (b : FVec Ideal S32x256 .f32) (a : FVec Ideal S768x256 .f32) (j : Fin 32) (r : Fin 256) :
    k1_pay52 (F := Ideal) k b a (ix2 j r) = if BitVec.ofNat 32 j.val = BitVec.ofNat 32 k.val then k1_pay49 a (ix2 0 r) else b (ix2 j r) := by
  pointwise [k1_pay52]
  rw [iv_eq, select_eq]

theorem pay53_apply (v5 v8 v9 v10 v11 v30 v33) (k) (b : IVec S32x256 32) (a : FVec Ideal S768x256 .f32) (j : Fin 32) (r : Fin 256) :
    k1_pay53 (F := Ideal) v5 v8 v9 v10 v11 v30 v33 k b a (ix2 j r)
      = if BitVec.ofNat 32 j.val = BitVec.ofNat 32 k.val then k1_pay50 v5 v8 v9 v10 v11 v30 v33 a (ix2 0 r) else b (ix2 j r) := by
  pointwise [k1_pay53]
  rw [iv_eq, select_eq]

theorem pay54_apply (a : FVec Ideal S768x256 .f32) (j : S1x1x1.Idx) :
    k1_pay54 (F := Ideal) a j = Finset.fold IntOp.maxsi 2147483648#32 (fun x : Fin 128 × Fin 256 => BitVec.setWidth 32 (BitVec.ofBool (decide (a (ix2 ⟨640 + x.1.val, by omega⟩ x.2) = ⊥)))) Finset.univ := by
  pointwise [k1_pay54]
  rw [neg_eq]

/-! The rounds of the masking loop. -/

theorem pay59_apply (a : Vec Ideal S256x10240 .f32) (r : Fin 256) (z : Fin 1) :
    k1_pay59 (F := Ideal) a (ix2 r z) = Finset.fold max (⊥ : EReal) (fun y : Fin 10240 => a (ix2 r y)) Finset.univ := by
  pointwise [k1_pay59]
  rw [negInf]

theorem pay60_apply (a : Vec Ideal S256x10240 .f32) (r : Fin 256) (z : Fin 1) :
    k1_pay60 (F := Ideal) a (ix2 r z)
      = Finset.fold IntOp.minsi 2147483647#32 (fun y : Fin 10240 => if a (ix2 r y) = k1_pay59 (F := Ideal) a (ix2 r 0) then BitVec.ofNat 32 y.val else 1073741824#32) Finset.univ := by
  pointwise [k1_pay60]

theorem pay61_apply (a : Vec Ideal S256x10240 .f32) (r : Fin 256) (y : Fin 10240) :
    k1_pay61 (F := Ideal) a (ix2 r y) = if BitVec.ofNat 32 y.val = k1_pay60 (F := Ideal) a (ix2 r 0) then ⊥ else a (ix2 r y) := by
  pointwise [k1_pay61]
  rw [neg_eq, select_eq]

theorem v4_apply (r : Fin 256) (j : Fin 32) : v4 (ix2 r j) = BitVec.ofNat 32 j.val := by
  pointwise [v4]

theorem v5_apply (r : Fin 256) (j : Fin 128) : v5 (ix2 r j) = BitVec.ofNat 32 j.val := by
  pointwise [v5]

theorem pay62_apply (k) (b : FVec Ideal S256x32 .f32) (a : Vec Ideal S256x10240 .f32) (r : Fin 256) (j : Fin 32) :
    k1_pay62 (F := Ideal) v4 k b a (ix2 r j) = if BitVec.ofNat 32 j.val = BitVec.ofNat 32 k.val then k1_pay59 (F := Ideal) a (ix2 r 0) else b (ix2 r j) := by
  pointwise [k1_pay62]
  rw [iv_eq, select_eq, v4_apply]

theorem pay63_apply (k) (b : IVec S256x32 32) (a : Vec Ideal S256x10240 .f32) (r : Fin 256) (j : Fin 32) :
    k1_pay63 (F := Ideal) v4 k b a (ix2 r j) = if BitVec.ofNat 32 j.val = BitVec.ofNat 32 k.val then k1_pay60 (F := Ideal) a (ix2 r 0) else b (ix2 r j) := by
  pointwise [k1_pay63]
  rw [iv_eq, select_eq, v4_apply]

theorem pay55_apply (a : FVec Ideal S32x256 .f32) (r : Fin 256) (j : Fin 32) : k1_pay55 (F := Ideal) a (ix2 r j) = a (ix2 j r) := by
  pointwise [k1_pay55]

theorem pay56_apply (a : IVec S32x256 32) (r : Fin 256) (j : Fin 32) : k1_pay56 a (ix2 r j) = a (ix2 j r) := by
  pointwise [k1_pay56]

theorem wOf_apply (a : FVec Ideal S256x32 .f32) (r : Fin 256) (j : Fin 32) :
    wOf (F := Ideal) a (ix2 r j) = Ideal.div (Ideal.exp (a (ix2 r j) - a (ix2 r 0))) (∑ x : Fin 32, Ideal.exp (a (ix2 r x) - a (ix2 r 0))) := by
  pointwise [wOf, k1_pay64, k1_pay65, k1_pay1]

/-! The candidates: lane `l` of slot `s` is candidate `128 s + l`. -/

theorem pay43_apply (a : Fin 6 → FVec Ideal S256x128 .f32) (s : Fin 6) (l : Fin 128) (r : Fin 256) (h : 128 * s.val + l.val < 768) :
    k1_pay43 (F := Ideal) (a 0) (a 1) (a 2) (a 3) (a 4) (a 5) (ix2 ⟨128 * s.val + l.val, h⟩ r) = a s (ix2 r l) := by
  pointwise [k1_pay43]
  obtain ⟨s, hs⟩ := s
  interval_cases s <;> dsimp only <;> split_ifs <;>
    first
      | (exfalso; omega)
      | exact congrArg (fun q => a _ (ix2 r q)) (Fin.ext (by dsimp only; omega))

theorem pay46_apply (a : Fin 6 → IVec S256x128 32) (s : Fin 6) (l : Fin 128) (r : Fin 256) (h : 128 * s.val + l.val < 768) :
    k1_pay46 v5 (a 2) (a 3) (a 4) (a 5) (k1_pay44 (a 0)) (k1_pay45 (a 1)) (ix2 ⟨128 * s.val + l.val, h⟩ r)
      = IntOp.addi (IntOp.muli (a s (ix2 r l)) 128#32) (BitVec.ofNat 32 l.val) := by
  pointwise [k1_pay46, k1_pay44, k1_pay45, v5]
  obtain ⟨s, hs⟩ := s
  interval_cases s <;> dsimp only <;> split_ifs <;>
    first
      | (exfalso; omega)
      | exact congrArg₂ IntOp.addi (congrArg (fun q => IntOp.muli (a _ (ix2 r q)) 128#32) (Fin.ext (by dsimp only; omega)))
          (congrArg (BitVec.ofNat 32) (by omega))

end Cert.KernelIdeal.Pay
-- ==== Proof.Rank.lean ====
/-
  The leading positions of a row of extended reals, and why rounds of "the greatest, its position, masked" find them.
-/
module

public import Mathlib.Data.EReal.Basic
public import Mathlib.Data.List.Perm.Basic
public import Mathlib.Data.Finset.Range
public import Mathlib.Data.Finset.Card
public import Mathlib.Tactic.Push

@[expose] public section

namespace Cert.Rank

/-- `σ` lists the `K` leading positions of the `n` values `f`: strictly decreasing, and above every value left out. -/
structure Lead (n K : ℕ) (f : ℕ → EReal) (σ : ℕ → ℕ) : Prop where
  lt : ∀ k < K, σ k < n
  anti : ∀ k < K, ∀ j < k, f (σ k) < f (σ j)
  rest : ∀ y < n, (∀ j < K, σ j ≠ y) → ∀ k < K, f y < f (σ k)

variable {n K : ℕ} {f : ℕ → EReal} {σ : ℕ → ℕ}

/-- Among the positions that the first `k` entries leave, entry `k` has the greatest value, and alone. -/
theorem Lead.lt_of_later (h : Lead n K f σ) {k : ℕ} (hk : k < K) {y : ℕ} (hy : y < n) (hj : ∀ j < k, σ j ≠ y)
    (hne : σ k ≠ y) : f y < f (σ k) := by
  by_cases hex : ∃ j < K, σ j = y
  · obtain ⟨j, hjK, rfl⟩ := hex
    rcases lt_trichotomy j k with hlt | heq | hgt
    · exact absurd rfl (hj j hlt)
    · exact absurd (congrArg σ heq.symm) hne
    · exact h.anti j hjK k hgt
  · exact h.rest y hy (fun j hj e => hex ⟨j, hj, e⟩) k hk

/-- With more positions than entries no entry's value is −∞. -/
theorem Lead.bot_lt (h : Lead n K f σ) (hn : K < n) {k : ℕ} (hk : k < K) : ⊥ < f (σ k) := by
  have hex : ∃ y < n, ∀ j < K, σ j ≠ y := by
    by_contra hno
    push Not at hno
    have hsub : Finset.range n ⊆ (Finset.range K).image σ := fun y hy => by
      obtain ⟨j, hj, e⟩ := hno y (Finset.mem_range.mp hy)
      exact Finset.mem_image.mpr ⟨j, Finset.mem_range.mpr hj, e⟩
    have := (Finset.card_le_card hsub).trans Finset.card_image_le
    simp at this
    omega
  obtain ⟨y, hy, hne⟩ := hex
  exact lt_of_le_of_lt bot_le (h.rest y hy hne k hk)

/-- `K` rounds over the entries `ι`: round `k` finds the greatest value `v k` and the position `c k` of an entry that
    has it, and masks every entry of that position. -/
structure Rounds {ι : Type} (K : ℕ) (col : ι → ℕ) (g : ℕ → ι → EReal) (v : ℕ → EReal) (c : ℕ → ℕ) : Prop where
  top : ∀ k < K, ∀ i, g k i ≤ v k
  hit : ∀ k < K, ∃ i, g k i = v k ∧ c k = col i
  mask : ∀ k < K, ∀ i, g (k + 1) i = if col i = c k then ⊥ else g k i

variable {ι : Type} {col : ι → ℕ} {g : ℕ → ι → EReal} {v : ℕ → EReal} {c : ℕ → ℕ}

/-- A masked entry stays masked. -/
theorem Rounds.bot_of_bot (r : Rounds K col g v c) {k : ℕ} {i : ι} (h : g k i = ⊥) :
    ∀ m, k + m ≤ K → g (k + m) i = ⊥
  | 0, _ => h
  | m + 1, hm => by
    have := r.bot_of_bot h m (by omega)
    rw [← Nat.add_assoc, r.mask (k + m) (by omega) i, this, ite_self]

/-- The rounds find the leading values and positions, if every entry is −∞ or the value of its position, and each
    leading position either is an entry or is not above some entry that is never masked. -/
theorem Rounds.eq_lead (r : Rounds K col g v c) (h : Lead n K f σ) (hn : K < n)
    (hval : ∀ i, g 0 i = ⊥ ∨ (col i < n ∧ g 0 i = f (col i)))
    (hreach : ∀ k < K, (∃ i, col i = σ k ∧ g 0 i = f (σ k)) ∨ ∃ i, g K i ≠ ⊥ ∧ f (σ k) ≤ g 0 i) :
    ∀ k < K, v k = f (σ k) ∧ c k = σ k := by
  have main : ∀ k, k ≤ K → (∀ j < k, v j = f (σ j) ∧ c j = σ j)
      ∧ ∀ i, ((∃ j < k, σ j = col i) → g k i = ⊥) ∧ ((∀ j < k, σ j ≠ col i) → g k i = g 0 i) := by
    intro k
    induction k with
    | zero => exact fun _ => ⟨fun j hj => absurd hj (Nat.not_lt_zero j), fun i => ⟨fun ⟨j, hj, _⟩ => absurd hj (Nat.not_lt_zero j), fun _ => rfl⟩⟩
    | succ k ih =>
      intro hk
      obtain ⟨hv, hg⟩ := ih (by omega)
      have hkK : k < K := by omega
      have hpos := h.bot_lt hn hkK
      -- every entry is at most the leading value
      have hle : ∀ i, g k i ≤ f (σ k) := fun i => by
        by_cases hm : ∃ j < k, σ j = col i
        · rw [(hg i).1 hm]; exact bot_le
        · have hm' : ∀ j < k, σ j ≠ col i := fun j hj e => hm ⟨j, hj, e⟩
          rw [(hg i).2 hm']
          rcases hval i with hb | ⟨hlt, he⟩
          · rw [hb]; exact bot_le
          · rw [he]
            by_cases hc : σ k = col i
            · rw [hc]
            · exact (h.lt_of_later hkK hlt hm' hc).le
      have hne : ∀ j < k, σ j ≠ σ k := fun j hj e => by
        have := h.anti k hkK j hj
        rw [e] at this
        exact lt_irrefl _ this
      -- the leading position is an entry
      have hin : ∃ i, col i = σ k ∧ g 0 i = f (σ k) := by
        rcases hreach k hkK with hin | ⟨i, hi, hle'⟩
        · exact hin
        · by_contra hno
          have h0 : g 0 i = f (col i) ∧ col i < n := by
            rcases hval i with hb | ⟨hlt, he⟩
            · exact absurd (by simpa using r.bot_of_bot hb K (by omega)) hi
            · exact ⟨he, hlt⟩
          have hc : σ k ≠ col i := fun e => hno ⟨i, e.symm, by rw [h0.1, e]⟩
          by_cases hm : ∃ j < k, σ j = col i
          · have hb := r.bot_of_bot ((hg i).1 hm) (K - k) (by omega)
            rw [show k + (K - k) = K by omega] at hb
            exact hi hb
          · have := h.lt_of_later hkK h0.2 (fun j hj e => hm ⟨j, hj, e⟩) hc
            rw [← h0.1] at this
            exact absurd hle' (not_le.mpr this)
      have hvk : v k = f (σ k) := by
        apply le_antisymm
        · obtain ⟨i, hi, _⟩ := r.hit k hkK
          rw [← hi]; exact hle i
        · obtain ⟨i, hi, he⟩ := hin
          have := r.top k hkK i
          rwa [(hg i).2 (fun j hj e => hne j hj (e.trans hi)), he] at this
      have hck : c k = σ k := by
        obtain ⟨i, hi, hc⟩ := r.hit k hkK
        rw [hc]
        by_contra hne'
        rw [hvk] at hi
        by_cases hm : ∃ j < k, σ j = col i
        · rw [(hg i).1 hm] at hi
          exact absurd hi (ne_of_lt hpos)
        · have hm' : ∀ j < k, σ j ≠ col i := fun j hj e => hm ⟨j, hj, e⟩
          rw [(hg i).2 hm'] at hi
          rcases hval i with hb | ⟨hlt, he⟩
          · rw [hb] at hi
            exact absurd hi (ne_of_lt hpos)
          · have := h.lt_of_later hkK hlt hm' (fun e => hne' e.symm)
            rw [← he, hi] at this
            exact lt_irrefl _ this
      refine ⟨fun j hj => ?_, fun i => ⟨fun ⟨j, hj, e⟩ => ?_, fun hm => ?_⟩⟩
      · rcases Nat.lt_succ_iff_lt_or_eq.mp hj with hlt | rfl
        · exact hv j hlt
        · exact ⟨hvk, hck⟩
      · rw [r.mask k hkK i, hck]
        rcases Nat.lt_succ_iff_lt_or_eq.mp hj with hlt | rfl
        · rw [(hg i).1 ⟨j, hlt, e⟩, ite_self]
        · rw [if_pos e.symm]
      · rw [r.mask k hkK i, hck, if_neg (fun e => hm k (by omega) e.symm), (hg i).2 fun j hj => hm j (by omega)]
  exact fun k hk => (main K le_rfl).1 k hk

/-! ## A short list kept in order by insertion -/

variable {γ : Type}

/-- Of an entry and a slot, the one the slot keeps. -/
noncomputable def hi (x s : EReal × γ) : EReal × γ := if s.1 < x.1 then x else s
/-- Of an entry and a slot, the one handed on. -/
noncomputable def lo (x s : EReal × γ) : EReal × γ := if s.1 < x.1 then s else x

/-- The slots after an entry has gone down them. -/
noncomputable def put : EReal × γ → List (EReal × γ) → List (EReal × γ)
  | _, [] => []
  | x, s :: l => hi x s :: put (lo x s) l

/-- The entry that falls out. -/
noncomputable def out : EReal × γ → List (EReal × γ) → EReal × γ
  | x, [] => x
  | x, s :: l => out (lo x s) l

theorem put_perm : ∀ (x : EReal × γ) (l : List (EReal × γ)), (put x l ++ [out x l]).Perm (x :: l)
  | x, [] => .refl _
  | x, s :: l => by
    have h := put_perm (lo x s) l
    simp only [put, out, List.cons_append]
    refine (h.cons (hi x s)).trans ?_
    unfold hi lo
    split
    · exact .refl _
    · exact List.Perm.swap _ _ _

/-- The values do not increase along the list. -/
def Down (l : List (EReal × γ)) : Prop := l.Pairwise fun p q => q.1 ≤ p.1

theorem put_down (x : EReal × γ) (l : List (EReal × γ)) (h : Down l) : Down (put x l ++ [out x l]) := by
  induction l generalizing x with
  | nil => exact List.pairwise_singleton _ _
  | cons s l ih =>
    obtain ⟨hs, hl⟩ := List.pairwise_cons.mp h
    refine List.pairwise_cons.mpr ⟨fun q hq => ?_, ih (lo x s) hl⟩
    have hq' := (put_perm (lo x s) l).mem_iff.mp hq
    rcases List.mem_cons.mp hq' with rfl | hq'
    · unfold hi lo
      split
      · exact le_of_lt (by assumption)
      · exact not_lt.mp (by assumption)
    · have := hs q hq'
      unfold hi
      split
      · exact this.trans (le_of_lt (by assumption))
      · exact this

/-- What the slots hold after the values `F g` with the marks `e g`, `g < n`, went down them in turn: each slot is empty
    or one of them, the slots are in order, and what is in no slot is above none. -/
structure Kept (n : ℕ) (F : ℕ → EReal) (e : ℕ → γ) (l : List (EReal × γ)) : Prop where
  from_ : ∀ p ∈ l, p.1 = ⊥ ∨ ∃ g < n, p = (F g, e g)
  down : Down l
  all : ∀ g < n, (F g, e g) ∈ l ∨ ∀ p ∈ l, F g ≤ p.1

theorem Kept.put {n : ℕ} {F : ℕ → EReal} {e : ℕ → γ} {l : List (EReal × γ)} (h : Kept n F e l) :
    Kept (n + 1) F e (put (F n, e n) l) := by
  have hp := put_perm (F n, e n) l
  have hd := put_down (F n, e n) l h.down
  obtain ⟨hd1, -, hd2⟩ := List.pairwise_append.mp hd
  have hd2' : ∀ p ∈ Rank.put (F n, e n) l, (out (F n, e n) l).1 ≤ p.1 := fun p hp => hd2 p hp _ (List.mem_singleton.mpr rfl)
  refine ⟨fun p hpm => ?_, hd1, fun g hg => ?_⟩
  · have := hp.mem_iff.mp (List.mem_append_left _ hpm)
    rcases List.mem_cons.mp this with rfl | hm
    · exact Or.inr ⟨n, by omega, rfl⟩
    · rcases h.from_ p hm with hb | ⟨g, hg, e⟩
      · exact Or.inl hb
      · exact Or.inr ⟨g, by omega, e⟩
  · have key : (F g, e g) ∈ (F n, e n) :: l →
        (F g, e g) ∈ Rank.put (F n, e n) l ∨ ∀ p ∈ Rank.put (F n, e n) l, F g ≤ p.1 := fun hm => by
      rcases List.mem_append.mp (hp.mem_iff.mpr hm) with hm | hm
      · exact Or.inl hm
      · refine Or.inr fun p hpm => ?_
        have := hd2' p hpm
        rwa [← List.mem_singleton.mp hm] at this
    rcases Nat.lt_succ_iff_lt_or_eq.mp hg with hlt | rfl
    · rcases h.all g hlt with hm | hle
      · exact key (List.mem_cons_of_mem _ hm)
      · refine Or.inr fun p hpm => ?_
        have hout : (out (F n, e n) l) ∈ (F n, e n) :: l := hp.mem_iff.mp (List.mem_append_right _ (List.mem_singleton.mpr rfl))
        rcases List.mem_cons.mp hout with he | hm
        · -- the entry itself fell out: the slots hold what they held
          have hperm : (Rank.put (F n, e n) l).Perm l := by
            rw [he] at hp
            exact List.Perm.cons_inv ((List.perm_append_comm (l₁ := [(F n, e n)])).trans hp)
          exact hle p (hperm.mem_iff.mp hpm)
        · exact (hle _ hm).trans (hd2' p hpm)
    · exact key List.mem_cons_self

/-- Empty slots. -/
theorem Kept.zero {F : ℕ → EReal} {e : ℕ → γ} {l : List (EReal × γ)} (h : ∀ p ∈ l, p.1 = ⊥) : Kept 0 F e l :=
  ⟨fun p hp => Or.inl (h p hp), List.pairwise_of_forall_mem_list fun p hp q hq => by rw [h p hp, h q hq],
    fun g hg => absurd hg (Nat.not_lt_zero g)⟩

end Cert.Rank
-- ==== Proof.Branch.lean ====
/-
  What the kernel selects in one row: whichever branch runs, the leading columns of the row and their values.

  Each lane keeps its six greatest scores with their groups (`lanes`, `kept`). The rounds over the candidates, and the
  rounds over the whole row, are rounds in the sense of `Cert.Rank.Rounds`.
-/
module

public import proofs.«01_k».proof.Proof.Pay
public import proofs.«01_k».proof.Proof.Rank

@[expose] public section

noncomputable section

namespace Cert.KernelIdeal.Branch

open Cert.KernelIdeal Cert.KernelIdeal.Gen Cert.KernelIdeal.Model Cert.KernelIdeal.Pay Cert.Folds Cert.Rank
open Idealize.ShloMosaic Idealize.SL.Sem

/-! One lane's slots. -/

/-- The six slots at an index: value and group. -/
def lanes (s : St2 Ideal) (j : S256x128.Idx) : List (EReal × BitVec 32) :=
  match s with
  | (a7, a8, a9, a10, a11, a12, a13, a14, a15, a16, a17, a18) =>
    [(a7 j, a13 j), (a8 j, a14 j), (a9 j, a15 j), (a10 j, a16 j), (a11 j, a17 j), (a12 j, a18 j)]

theorem lanes_step (k : Fin k1_t2_loop.trips) (v : Vec Ideal S256x128 .f32) (s : St2 Ideal) (j : S256x128.Idx) :
    lanes (step2 k v s) j = put (v j, BitVec.ofNat 32 k.val) (lanes s j) := by
  obtain ⟨a7, a8, a9, a10, a11, a12, a13, a14, a15, a16, a17, a18⟩ := s
  have h0 : k1_pay15 k j = BitVec.ofNat 32 k.val := by
    pointwise [k1_pay15]
    rw [iv_eq]
    exact (addi_ofNat 0 k.val).trans (by rw [Nat.zero_add])
  have h1 : (k1_pay17 a7 v j, k1_pay19 k a7 a13 v j) = hi (v j, k1_pay15 k j) (a7 j, a13 j) := by
    pointwise [k1_pay17, k1_pay19, k1_pay16]
    unfold hi
    dsimp only
    split_ifs <;> rfl
  have l1 : (k1_pay18 a7 v j, k1_pay20 k a7 a13 v j) = lo (v j, k1_pay15 k j) (a7 j, a13 j) := by
    pointwise [k1_pay18, k1_pay20, k1_pay16]
    unfold lo
    dsimp only
    split_ifs <;> rfl
  have h2 : (k1_pay22 a7 a8 v j, k1_pay24 k a7 a8 a13 a14 v j) = hi (k1_pay18 a7 v j, k1_pay20 k a7 a13 v j) (a8 j, a14 j) := by
    pointwise [k1_pay22, k1_pay24, k1_pay21]
    unfold hi
    dsimp only
    split_ifs <;> rfl
  have l2 : (k1_pay23 a7 a8 v j, k1_pay25 k a7 a8 a13 a14 v j) = lo (k1_pay18 a7 v j, k1_pay20 k a7 a13 v j) (a8 j, a14 j) := by
    pointwise [k1_pay23, k1_pay25, k1_pay21]
    unfold lo
    dsimp only
    split_ifs <;> rfl
  have h3 : (k1_pay27 a7 a8 a9 v j, k1_pay29 k a7 a8 a9 a13 a14 a15 v j) = hi (k1_pay23 a7 a8 v j, k1_pay25 k a7 a8 a13 a14 v j) (a9 j, a15 j) := by
    pointwise [k1_pay27, k1_pay29, k1_pay26]
    unfold hi
    dsimp only
    split_ifs <;> rfl
  have l3 : (k1_pay28 a7 a8 a9 v j, k1_pay30 k a7 a8 a9 a13 a14 a15 v j) = lo (k1_pay23 a7 a8 v j, k1_pay25 k a7 a8 a13 a14 v j) (a9 j, a15 j) := by
    pointwise [k1_pay28, k1_pay30, k1_pay26]
    unfold lo
    dsimp only
    split_ifs <;> rfl
  have h4 : (k1_pay32 a7 a8 a9 a10 v j, k1_pay34 k a7 a8 a9 a10 a13 a14 a15 a16 v j) = hi (k1_pay28 a7 a8 a9 v j, k1_pay30 k a7 a8 a9 a13 a14 a15 v j) (a10 j, a16 j) := by
    pointwise [k1_pay32, k1_pay34, k1_pay31]
    unfold hi
    dsimp only
    split_ifs <;> rfl
  have l4 : (k1_pay33 a7 a8 a9 a10 v j, k1_pay35 k a7 a8 a9 a10 a13 a14 a15 a16 v j) = lo (k1_pay28 a7 a8 a9 v j, k1_pay30 k a7 a8 a9 a13 a14 a15 v j) (a10 j, a16 j) := by
    pointwise [k1_pay33, k1_pay35, k1_pay31]
    unfold lo
    dsimp only
    split_ifs <;> rfl
  have h5 : (k1_pay37 a7 a8 a9 a10 a11 v j, k1_pay39 k a7 a8 a9 a10 a11 a13 a14 a15 a16 a17 v j)
      = hi (k1_pay33 a7 a8 a9 a10 v j, k1_pay35 k a7 a8 a9 a10 a13 a14 a15 a16 v j) (a11 j, a17 j) := by
    pointwise [k1_pay37, k1_pay39, k1_pay36]
    unfold hi
    dsimp only
    split_ifs <;> rfl
  have h6 : (k1_pay41 a7 a8 a9 a10 a11 a12 v j, k1_pay42 k a7 a8 a9 a10 a11 a12 a13 a14 a15 a16 a17 a18 v j)
      = hi (lo (k1_pay33 a7 a8 a9 a10 v j, k1_pay35 k a7 a8 a9 a10 a13 a14 a15 a16 v j) (a11 j, a17 j)) (a12 j, a18 j) := by
    pointwise [k1_pay41, k1_pay42, k1_pay40, k1_pay38, k1_pay36]
    unfold hi lo
    dsimp only
    split_ifs <;> first | rfl | contradiction
  unfold step2 lanes
  dsimp only [put]
  rw [h1, h2, h3, h4, h5, h6, l4, l3, l2, l1, h0]

theorem lanes_init (j : S256x128.Idx) : ∀ p ∈ lanes init2 j, p.1 = ⊥ ∧ ∃ g < 80, p.2 = BitVec.ofNat 32 g := by
  have hv : ∀ q : Ideal .f32, q = Named.named κ "neg" 0xFF61B1E6#32 → q = (⊥ : Ideal .f32) := fun q h => h.trans neg_eq
  intro p hp
  simp only [lanes, init2, List.mem_cons, List.not_mem_nil, or_false] at hp
  rcases hp with rfl | rfl | rfl | rfl | rfl | rfl <;> exact ⟨hv _ rfl, 0, by decide, rfl⟩

/-- The score of group `g` in one lane. -/
def laneF (X : Vec Ideal S256x10240 .f32) (r : Fin 256) (l : Fin 128) (g : ℕ) : EReal :=
  if h : 128 * g + l.val < 10240 then X (ix2 r ⟨128 * g + l.val, h⟩) else ⊥

theorem kept (X : Vec Ideal S256x10240 .f32) (r : Fin 256) (l : Fin 128) : ∀ n ≤ 80,
    Kept n (laneF X r l) (fun g => BitVec.ofNat 32 g) (lanes (st2 X n) (ix2 r l))
      ∧ ∀ p ∈ lanes (st2 X n) (ix2 r l), ∃ g < 80, p.2 = BitVec.ofNat 32 g := by
  intro n
  induction n with
  | zero => exact fun _ => ⟨Kept.zero fun p hp => (lanes_init _ p hp).1, fun p hp => (lanes_init _ p hp).2⟩
  | succ n ih =>
    intro hn
    have hk : n < k1_t2_loop.trips := by rw [trips2]; omega
    have e := st2_succ X ⟨n, hk⟩
    have hb : 128 * n + l.val < 10240 := by omega
    have ev : laneCols X ⟨n, hk⟩ (ix2 r l) = laneF X r l n := by
      rw [laneCols_apply X ⟨n, hk⟩ r l hb]
      unfold laneF
      rw [dif_pos hb]
    have es : lanes (st2 X (n + 1)) (ix2 r l) = put (laneF X r l n, BitVec.ofNat 32 n) (lanes (st2 X n) (ix2 r l)) := by
      rw [e, lanes_step, ev]
    obtain ⟨h1, h2⟩ := ih (by omega)
    rw [es]
    refine ⟨h1.put, fun p hp => ?_⟩
    rcases List.mem_cons.mp ((put_perm _ _).mem_iff.mp (List.mem_append_left _ hp)) with rfl | hm
    · exact ⟨n, by omega, rfl⟩
    · exact h2 p hm

/-! Rounds, of their step. -/

section
variable {ι : Type} [Fintype ι] [Nonempty ι]

/-- The greatest value and the least position word at it. -/
def topV (G : ι → EReal) : EReal := Finset.fold max ⊥ G Finset.univ
def topC (G : ι → EReal) (C : ι → BitVec 32) : BitVec 32 :=
  Finset.fold IntOp.minsi 2147483647#32 (fun x => if G x = topV G then C x else 1073741824#32) Finset.univ

theorem rounds_of (K : ℕ) (G : ℕ → ι → EReal) (C : ι → BitVec 32) (hC : ∀ i, (C i).toInt < 1073741824)
    (hstep : ∀ k < K, ∀ i, G (k + 1) i = if C i = topC (G k) C then ⊥ else G k i) :
    Rounds K (fun i => (C i).toNat) G (fun k => topV (G k)) (fun k => (topC (G k) C).toNat) where
  top k _ i := le_foldMax (G k) i
  hit k _ := by
    obtain ⟨i, h1, h2⟩ := exists_hit (G k) C hC (topV (G k)) rfl
    exact ⟨i, h1, congrArg BitVec.toNat h2⟩
  mask k hk i := by
    rw [hstep k hk i]
    exact if_congr ⟨congrArg BitVec.toNat, BitVec.eq_of_toNat_eq⟩ rfl rfl

end

/-! The rounds over the whole row. -/

section Rows
variable (X : Vec Ideal S256x10240 .f32) (r : Fin 256)

/-- The remaining scores of the row before round `k`. -/
def rowG (k : ℕ) (y : Fin 10240) : EReal := (st4 v4 X k).2 (ix2 r y)
def rowC (y : Fin 10240) : BitVec 32 := BitVec.ofNat 32 y.val

theorem st4_at (k : ℕ) (hk : k < 32) : st4 v4 X (k + 1) = step4 v4 ⟨k, by rw [trips4]; exact hk⟩ (st4 v4 X k) :=
  st4_succ v4 X ⟨k, by rw [trips4]; exact hk⟩

theorem rowV_eq (k : ℕ) (z : Fin 1) : k1_pay59 (F := Ideal) (st4 v4 X k).2 (ix2 r z) = topV (rowG X r k) := pay59_apply _ _ _

theorem rowC_eq (k : ℕ) (z : Fin 1) : k1_pay60 (F := Ideal) (st4 v4 X k).2 (ix2 r z) = topC (rowG X r k) rowC := by
  rw [pay60_apply, rowV_eq]
  rfl

theorem row_rounds : Rounds 32 (fun y => (rowC y).toNat) (rowG X r) (fun k => topV (rowG X r k)) (fun k => (topC (rowG X r k) rowC).toNat) := by
  refine rounds_of 32 (rowG X r) rowC (fun y => ?_) fun k hk y => ?_
  · have := y.isLt
    rw [rowC, toInt_ofNat (by omega)]
    omega
  · have h : rowG X r (k + 1) y = k1_pay61 (st4 v4 X k).2 (ix2 r y) := by
      unfold rowG
      rw [st4_at X k hk, step4_snd]
    rw [h, pay61_apply, rowC_eq]
    rfl

theorem row_out : ∀ n ≤ 32, ∀ j : Fin 32, j.val < n →
    (st4 v4 X n).1.1 (ix2 r j) = topV (rowG X r j.val) ∧ (st4 v4 X n).1.2 (ix2 r j) = topC (rowG X r j.val) rowC := by
  intro n
  induction n with
  | zero => exact fun _ j hj => absurd hj (Nat.not_lt_zero _)
  | succ n ih =>
    intro hn j hj
    rw [st4_at X n (by omega)]
    unfold step4
    dsimp only
    rw [pay62_apply, pay63_apply, rowV_eq, rowC_eq]
    by_cases e : j.val = n
    · simp only [e, if_true, and_self]
    · have hne : ¬ BitVec.ofNat 32 j.val = BitVec.ofNat 32 n := fun h => e (ofNat_inj (by omega) (by omega) h)
      rw [if_neg hne, if_neg hne]
      exact ih (by omega) j (by omega)

end Rows

/-! The rounds over the candidates. -/

section Cands
variable (s : St2 Ideal) (r : Fin 256)

/-- The remaining candidates before round `k`, and their columns. -/
def canG (k : ℕ) (x : Fin 768) : EReal := (st3 (part1Of s) k).2.2 (ix2 x r)
def canC (x : Fin 768) : BitVec 32 :=
  k1_pay46 (part1Of s).2.1 (part1Of s).2.2.1 (part1Of s).2.2.2.1 (part1Of s).2.2.2.2.1 (part1Of s).2.2.2.2.2.1
    (part1Of s).2.2.2.2.2.2.2.1 (part1Of s).2.2.2.2.2.2.2.2 (ix2 x r)

theorem st3_at (p : P1 Ideal) (k : ℕ) (hk : k < 32) : st3 p (k + 1) = step3 p ⟨k, by rw [trips3]; exact hk⟩ (st3 p k) :=
  st3_succ p ⟨k, by rw [trips3]; exact hk⟩

theorem canV_eq (k : ℕ) (z : Fin 1) : k1_pay49 (F := Ideal) (st3 (part1Of s) k).2.2 (ix2 z r) = topV (canG s r k) := pay49_apply _ _ _

theorem canC_eq (k : ℕ) (z : Fin 1) :
    k1_pay50 (F := Ideal) (part1Of s).2.1 (part1Of s).2.2.1 (part1Of s).2.2.2.1 (part1Of s).2.2.2.2.1 (part1Of s).2.2.2.2.2.1
      (part1Of s).2.2.2.2.2.2.2.1 (part1Of s).2.2.2.2.2.2.2.2 (st3 (part1Of s) k).2.2 (ix2 z r) = topC (canG s r k) (canC s r) := by
  rw [pay50_apply, canV_eq]
  rfl

theorem can_rounds (hC : ∀ x, (canC s r x).toInt < 1073741824) :
    Rounds 32 (fun x => (canC s r x).toNat) (canG s r) (fun k => topV (canG s r k)) (fun k => (topC (canG s r k) (canC s r)).toNat) := by
  refine rounds_of 32 (canG s r) (canC s r) hC fun k hk x => ?_
  have h := congrArg (fun q : St3 Ideal => q.2.2 (ix2 x r)) (st3_at (part1Of s) k hk)
  unfold step3 at h
  dsimp only at h
  rw [pay51_apply, canC_eq] at h
  exact h

theorem can_out : ∀ n ≤ 32, ∀ j : Fin 32, j.val < n →
    (st3 (part1Of s) n).1 (ix2 j r) = topV (canG s r j.val) ∧ (st3 (part1Of s) n).2.1 (ix2 j r) = topC (canG s r j.val) (canC s r) := by
  intro n
  induction n with
  | zero => exact fun _ j hj => absurd hj (Nat.not_lt_zero _)
  | succ n ih =>
    intro hn j hj
    rw [st3_at (part1Of s) n (by omega)]
    unfold step3
    dsimp only
    rw [pay52_apply, pay53_apply, canV_eq, canC_eq]
    by_cases e : j.val = n
    · simp only [e, if_true, and_self]
    · have hne : ¬ BitVec.ofNat 32 j.val = BitVec.ofNat 32 n := fun h => e (ofNat_inj (by omega) (by omega) h)
      rw [if_neg hne, if_neg hne]
      exact ih (by omega) j (by omega)

/-- Slot `q` of lane `l` is candidate `128 q + l`. -/
theorem can_slot (q : Fin 6) (l : Fin 128) (h : 128 * q.val + l.val < 768) :
    ∃ p ∈ lanes s (ix2 r l), canG s r 0 ⟨128 * q.val + l.val, h⟩ = p.1
      ∧ canC s r ⟨128 * q.val + l.val, h⟩ = IntOp.addi (IntOp.muli p.2 128#32) (BitVec.ofNat 32 l.val) := by
  obtain ⟨a7, a8, a9, a10, a11, a12, a13, a14, a15, a16, a17, a18⟩ := s
  have e1 := pay43_apply ![a7, a8, a9, a10, a11, a12] q l r h
  have e2 := pay46_apply ![a13, a14, a15, a16, a17, a18] q l r h
  refine ⟨(![a7, a8, a9, a10, a11, a12] q (ix2 r l), ![a13, a14, a15, a16, a17, a18] q (ix2 r l)), ?_, e1, e2⟩
  unfold lanes
  dsimp only
  fin_cases q <;> simp

theorem slot_can (l : Fin 128) (p) (hp : p ∈ lanes s (ix2 r l)) : ∃ x : Fin 768, canG s r 0 x = p.1
      ∧ canC s r x = IntOp.addi (IntOp.muli p.2 128#32) (BitVec.ofNat 32 l.val) := by
  obtain ⟨a7, a8, a9, a10, a11, a12, a13, a14, a15, a16, a17, a18⟩ := s
  have key : ∀ q : Fin 6, p = (![a7, a8, a9, a10, a11, a12] q (ix2 r l), ![a13, a14, a15, a16, a17, a18] q (ix2 r l)) →
      ∃ x : Fin 768, canG (a7, a8, a9, a10, a11, a12, a13, a14, a15, a16, a17, a18) r 0 x = p.1
      ∧ canC (a7, a8, a9, a10, a11, a12, a13, a14, a15, a16, a17, a18) r x = IntOp.addi (IntOp.muli p.2 128#32) (BitVec.ofNat 32 l.val) := fun q hq => by
    have h : 128 * q.val + l.val < 768 := by omega
    have e1 := pay43_apply ![a7, a8, a9, a10, a11, a12] q l r h
    have e2 := pay46_apply ![a13, a14, a15, a16, a17, a18] q l r h
    subst hq
    exact ⟨_, e1, e2⟩
  simp only [lanes, List.mem_cons, List.not_mem_nil, or_false] at hp
  rcases hp with h | h | h | h | h | h
  exacts [key 0 h, key 1 h, key 2 h, key 3 h, key 4 h, key 5 h]

end Cands

/-- When the conditional's word is not set, no lane's deepest candidate was taken. -/
theorem ovf_not (a : St3 Ideal) (h : ¬ ovf a = 1#1) (l : Fin 128) (r : Fin 256) : a.2.2 (ix2 ⟨640 + l.val, by omega⟩ r) ≠ (⊥ : EReal) := by
  intro hb
  refine h ?_
  have hle := le_foldMaxsi 2147483648#32 (fun x : Fin 128 × Fin 256 => BitVec.setWidth 32 (BitVec.ofBool (decide (a.2.2 (ix2 ⟨640 + x.1.val, by omega⟩ x.2) = (⊥ : EReal))))) (l, r)
  dsimp only at hle
  have hw : extractAt ![0, 0, 0] (k1_pay54 (F := Ideal) a.2.2) inpos_S1x1x1_p0_0_0 = _ := pay54_apply a.2.2 _
  rw [← hw] at hle
  simp only [hb, decide_true] at hle
  unfold ovf
  generalize extractAt ![0, 0, 0] (k1_pay54 (F := Ideal) a.2.2) inpos_S1x1x1_p0_0_0 = w at hle ⊢
  have hs : (0#32 : BitVec 32).slt w = true := by
    rw [BitVec.slt_iff_toInt_lt]
    exact lt_of_lt_of_le (by decide) hle
  have hc : Scalar.cmpi .sgt w 0#32 = 1#1 := by
    change BitVec.ofBool ((0#32 : BitVec 32).slt w) = 1#1
    rw [hs]
    rfl
  rw [hc]
  rfl

/-! Both branches. -/

theorem word_of_toNat {w : BitVec 32} {n : ℕ} (h : w.toNat = n) : w = BitVec.ofNat 32 n := by
  subst h
  simp

section
variable (X : Vec Ideal S256x10240 .f32) (r : Fin 256) (f : ℕ → EReal) (σ : ℕ → ℕ)
  (hf : ∀ y : Fin 10240, X (ix2 r y) = f y.val) (hz : ∀ y, 10000 ≤ y → y < 10240 → f y = ⊥) (hL : Lead 10000 32 f σ)
include hf hz hL

theorem row_lead (j : ℕ) (hj : j < 32) : topV (rowG X r j) = f (σ j) ∧ (topC (rowG X r j) rowC).toNat = σ j := by
  have hcol : ∀ y : Fin 10240, (rowC y).toNat = y.val := fun y => by
    have := y.isLt
    rw [rowC, BitVec.toNat_ofNat]
    omega
  refine (row_rounds X r).eq_lead hL (by decide) (fun y => ?_) (fun k hk => Or.inl ?_) j hj
  · by_cases hy : y.val < 10000
    · exact Or.inr ⟨by rw [hcol]; exact hy, by rw [hcol]; exact hf y⟩
    · exact Or.inl ((hf y).trans (hz _ (by omega) y.isLt))
  · have := hL.lt k hk
    refine ⟨⟨σ k, by omega⟩, hcol _, hf _⟩

theorem can_lead (hov : ¬ ovf (st3 (part1 X) k1_t3_loop.trips) = 1#1) (j : ℕ) (hj : j < 32) :
    topV (canG (st2 X k1_t2_loop.trips) r j) = f (σ j)
      ∧ (topC (canG (st2 X k1_t2_loop.trips) r j) (canC (st2 X k1_t2_loop.trips) r)).toNat = σ j := by
  have hk := fun l => kept X r l 80 le_rfl
  rw [trips2]
  have hF : ∀ (l : Fin 128) (g : ℕ), g < 80 → laneF X r l g = f (128 * g + l.val) := fun l g hg => by
    unfold laneF
    rw [dif_pos (by omega : 128 * g + l.val < 10240)]
    exact hf _
  have hword : ∀ (l : Fin 128) (g : ℕ), IntOp.addi (IntOp.muli (BitVec.ofNat 32 g) 128#32) (BitVec.ofNat 32 l.val) = BitVec.ofNat 32 (128 * g + l.val) := fun l g => by
    rw [show (128#32 : BitVec 32) = BitVec.ofNat 32 128 from rfl, muli_ofNat, addi_ofNat, Nat.mul_comm]
  have hslot : ∀ x : Fin 768, ∃ (l : Fin 128) (p : EReal × BitVec 32), p ∈ lanes (st2 X 80) (ix2 r l) ∧ canG (st2 X 80) r 0 x = p.1
      ∧ canC (st2 X 80) r x = IntOp.addi (IntOp.muli p.2 128#32) (BitVec.ofNat 32 l.val) := fun x => by
    have hx := x.isLt
    have e : 128 * (x.val / 128) + x.val % 128 = x.val := by omega
    obtain ⟨p, hp, h1, h2⟩ := can_slot (st2 X 80) r ⟨x.val / 128, by omega⟩ ⟨x.val % 128, by omega⟩ (by dsimp only; omega)
    have ex : (⟨128 * (x.val / 128) + x.val % 128, by omega⟩ : Fin 768) = x := Fin.ext e
    dsimp only at h1 h2
    rw [ex] at h1 h2
    exact ⟨_, p, hp, h1, h2⟩
  have hnum : ∀ x : Fin 768, ∃ (l : Fin 128) (g : ℕ), g < 80 ∧ canC (st2 X 80) r x = BitVec.ofNat 32 (128 * g + l.val) := fun x => by
    obtain ⟨l, p, hp, -, h2⟩ := hslot x
    obtain ⟨g, hg, h3⟩ := (hk l).2 p hp
    exact ⟨l, g, hg, by rw [h2, h3, hword]⟩
  have hnat : ∀ (l : Fin 128) (g : ℕ), g < 80 → (BitVec.ofNat 32 (128 * g + l.val)).toNat = 128 * g + l.val := fun l g hg => by
    rw [BitVec.toNat_ofNat]
    omega
  refine (can_rounds (st2 X 80) r fun x => ?_).eq_lead hL (by decide) (fun x => ?_) (fun k hk' => ?_) j hj
  · obtain ⟨l, g, hg, h⟩ := hnum x
    rw [h, toInt_ofNat (by omega)]
    omega
  · obtain ⟨l, p, hp, h1, h2⟩ := hslot x
    rcases (hk l).1.from_ p hp with hb | ⟨g, hg, rfl⟩
    · exact Or.inl (h1.trans hb)
    · dsimp only at h1 h2
      rw [hF l g hg] at h1
      rw [hword] at h2
      by_cases hy : 128 * g + l.val < 10000
      · refine Or.inr ⟨?_, ?_⟩ <;> rw [h2, hnat l g hg]
        · exact hy
        · exact h1
      · exact Or.inl (h1.trans (hz _ (by omega) (by omega)))
  · have hs := hL.lt k hk'
    have e : 128 * (σ k / 128) + σ k % 128 = σ k := by omega
    have hg : σ k / 128 < 80 := by omega
    have hFk : laneF X r ⟨σ k % 128, by omega⟩ (σ k / 128) = f (σ k) := by
      rw [hF _ _ hg]
      exact congrArg f e
    rcases (hk ⟨σ k % 128, by omega⟩).1.all (σ k / 128) hg with hm | hall
    · obtain ⟨x, h1, h2⟩ := slot_can (st2 X 80) r _ _ hm
      dsimp only at h1 h2
      rw [hword ⟨σ k % 128, by omega⟩] at h2
      dsimp only at h2
      rw [e] at h2
      refine Or.inl ⟨x, ?_, h1.trans hFk⟩
      rw [h2, BitVec.toNat_ofNat]
      omega
    · have hb : 128 * (5 : Fin 6).val + σ k % 128 < 768 := by
        have : (5 : Fin 6).val = 5 := rfl
        omega
      obtain ⟨p, hp, h1, -⟩ := can_slot (st2 X 80) r 5 ⟨σ k % 128, by omega⟩ hb
      refine Or.inr ⟨⟨640 + σ k % 128, by omega⟩, ?_, ?_⟩
      · have := ovf_not _ hov ⟨σ k % 128, by omega⟩ r
        rw [trips3] at this
        unfold part1 at this
        rw [trips2] at this
        exact this
      · rw [hFk] at hall
        exact le_of_le_of_eq (hall p hp) h1.symm

end

/-- The row a block selects from: the leading columns and their values. -/
theorem sel_apply (eh : Vec Ideal S256x512 .f32) (et : Vec Ideal S10240x512 .f32) (r : Fin 256) (f : ℕ → EReal) (σ : ℕ → ℕ)
    (hf : ∀ y : Fin 10240, scr eh et (ix2 r y) = f y.val) (hz : ∀ y, 10000 ≤ y → y < 10240 → f y = ⊥) (hL : Lead 10000 32 f σ)
    (j : Fin 32) : (sel eh et).1 (ix2 r j) = f (σ j.val) ∧ (sel eh et).2 (ix2 r j) = BitVec.ofNat 32 (σ j.val) := by
  rw [sel_of eh et _ rfl]
  generalize scr eh et = X at hf ⊢
  by_cases hov : ovf (st3 (part1 X) k1_t3_loop.trips) = 1#1
  · rw [selOf_pos _ _ hov]
    obtain ⟨h1, h2⟩ := row_lead X r f σ hf hz hL j.val j.isLt
    have hp : (part1 X).1 = v4 := rfl
    rw [hp, trips4]
    obtain ⟨o1, o2⟩ := row_out X r 32 le_rfl j j.isLt
    exact ⟨o1.trans h1, o2.trans (word_of_toNat h2)⟩
  · rw [selOf_neg _ _ hov]
    obtain ⟨h1, h2⟩ := can_lead X r f σ hf hz hL hov j.val j.isLt
    dsimp only
    rw [pay55_apply, pay56_apply, trips3]
    obtain ⟨o1, o2⟩ := can_out (st2 X k1_t2_loop.trips) r 32 le_rfl j j.isLt
    exact ⟨o1.trans h1, o2.trans (word_of_toNat h2)⟩

end Cert.KernelIdeal.Branch
-- ==== Proof.Ref.lean ====
/-
  The reference read at one index: the logits, the leading columns of each row, and their softmax.

  `pos` is the column the sort puts at a place. When the greatest 33 logits of a row are strictly decreasing, the first
  32 places are the row's leading columns.
-/
module

public import proofs.«01_k».proof.Proof.Folds
public import proofs.«01_k».proof.Proof.Rank
public import proofs.«01_k».proof.Proof.Gen.ReferenceIdeal.Read
public import proofs.«01_k».proof.Proof.Gen.Pre_leading
public import Idealize.ShloMosaic.Lib.Pointwise
public import Idealize.ShloMosaic.Lib.SortFacts
public import Idealize.ShloMosaic.Lib.ReduceAll

@[expose] public section

noncomputable section

namespace Cert.Ref

open Idealize.ShloMosaic Idealize.SL.Sem Cert.Folds Cert.Rank
open Cert.ReferenceIdeal Cert.ReferenceIdeal.Gen Cert.ReferenceIdeal.Read

/-! The sort of one row. -/

/-- Whether column `k` goes before column `k'` in row `r`. -/
def before (x : FVec Ideal S10000x10000 .f32) (r : Fin 10000) (k k' : Fin 10000) : Bool := decide (x (ix2 r k') < x (ix2 r k))

/-- The column at place `j` of row `r`. -/
def pos (x : FVec Ideal S10000x10000 .f32) (r j : Fin 10000) : Fin 10000 := sortedFrom (before x r) j

theorem along_row (r j k : Fin 10000) : (ix2 r j : S10000x10000.Idx).along 1 k = ix2 r k := by
  funext a
  match a with
  | ⟨0, _⟩ => rfl
  | ⟨1, _⟩ => rfl

theorem before_eq (x : FVec Ideal S10000x10000 .f32) (r j : Fin 10000) :
    (fun k k' : Fin 10000 => FloatOps.cmpfTotal CmpDirection.gt (x ((ix2 r j : S10000x10000.Idx).along 1 k)) (x ((ix2 r j : S10000x10000.Idx).along 1 k')) == 1#1)
      = before x r := by
  funext k k'
  rw [along_row, along_row]
  unfold before
  change (BitVec.ofBool (decide (x (ix2 r k') < x (ix2 r k))) == 1#1) = _
  cases decide (x (ix2 r k') < x (ix2 r k)) <;> rfl

theorem topVal_apply (x : FVec Ideal S10000x10000 .f32) (h : S10000x10000.Slices (fun _ => 0) S10000x32) (r : Fin 10000) (j : Fin 32) :
    (Host.topK S10000x32 1 (FloatOps.cmpfTotal .gt) x h).1 (ix2 r j) = x (ix2 r (pos x r ⟨j.val, by omega⟩)) := by
  have e := before_eq x r ⟨j.val, by omega⟩
  unfold Host.topK Host.sort2
  pointwise []
  refine (congrArg x (along_row r _ _)).trans ?_
  exact congrArg (fun B => x (ix2 r (sortedFrom B ⟨j.val, by omega⟩))) e

theorem topIdx_apply (x : FVec Ideal S10000x10000 .f32) (h : S10000x10000.Slices (fun _ => 0) S10000x32) (r : Fin 10000) (j : Fin 32) :
    (Host.topK S10000x32 1 (FloatOps.cmpfTotal .gt) x h).2 (ix2 r j) = BitVec.ofNat 32 (pos x r ⟨j.val, by omega⟩).val := by
  have e := before_eq x r ⟨j.val, by omega⟩
  unfold Host.topK Host.sort2
  pointwise []
  refine (congrArg (fun z : S10000x10000.Idx => BitVec.ofNat 32 (z 1).val) (along_row r _ _)).trans ?_
  exact congrArg (fun B => BitVec.ofNat 32 (sortedFrom B (⟨j.val, by omega⟩ : Fin 10000)).val) e

theorem topVal33_apply (x : FVec Ideal S10000x10000 .f32) (h : S10000x10000.Slices (fun _ => 0) Cert.Pre_leading.S10000x33) (r : Fin 10000) (j : Fin 33) :
    (Host.topK Cert.Pre_leading.S10000x33 1 (FloatOps.cmpfTotal .gt) x h).1 (ix2 r j) = x (ix2 r (pos x r ⟨j.val, by omega⟩)) := by
  have e := before_eq x r ⟨j.val, by omega⟩
  unfold Host.topK Host.sort2
  pointwise []
  refine (congrArg x (along_row r _ _)).trans ?_
  exact congrArg (fun B => x (ix2 r (sortedFrom B ⟨j.val, by omega⟩))) e

/-- A row as a function of the column number, −∞ past its end, and the column at each place. -/
def rowF (x : FVec Ideal S10000x10000 .f32) (r : Fin 10000) (y : ℕ) : EReal := if h : y < 10000 then x (ix2 r ⟨y, h⟩) else ⊥
def rowS (x : FVec Ideal S10000x10000 .f32) (r : Fin 10000) (j : ℕ) : ℕ := if h : j < 10000 then (pos x r ⟨j, h⟩).val else 0

theorem rowF_pos (x : FVec Ideal S10000x10000 .f32) (r : Fin 10000) (j : ℕ) (h : j < 10000) : rowF x r (rowS x r j) = x (ix2 r (pos x r ⟨j, h⟩)) := by
  unfold rowS
  rw [dif_pos h]
  unfold rowF
  rw [dif_pos (pos x r ⟨j, h⟩).isLt]

theorem pos_le (x : FVec Ideal S10000x10000 .f32) (r i j : Fin 10000) (h : i < j) : x (ix2 r (pos x r j)) ≤ x (ix2 r (pos x r i)) := by
  have := sortedFrom_noInversion (before x r) (before x r)
    (fun a b hab => by simp only [before, decide_eq_true_eq, decide_eq_false_iff_not] at hab ⊢; exact not_lt_of_gt hab)
    (fun a b hab => hab)
    (fun a b c hab hbc => by
      simp only [before, decide_eq_false_iff_not, not_lt] at hab hbc ⊢
      exact hab.trans hbc) i j h
  simp only [before, decide_eq_false_iff_not, not_lt] at this
  exact this

theorem lead_of (x : FVec Ideal S10000x10000 .f32) (r : Fin 10000)
    (h : ∀ j : Fin 32, x (ix2 r (pos x r ⟨j.val + 1, by omega⟩)) < x (ix2 r (pos x r ⟨j.val, by omega⟩))) :
    Lead 10000 32 (rowF x r) (rowS x r) := by
  have step : ∀ i j : Fin 10000, i < j → i.val < 32 → x (ix2 r (pos x r j)) < x (ix2 r (pos x r i)) := fun i j hij hi => by
    have h0 := h ⟨i.val, hi⟩
    rcases Nat.lt_or_eq_of_le (Nat.succ_le_of_lt (Fin.lt_def.mp hij)) with hl | he
    · exact lt_of_le_of_lt (pos_le x r ⟨i.val + 1, by omega⟩ j hl) h0
    · have : j = ⟨i.val + 1, by omega⟩ := Fin.ext he.symm
      rw [this]
      exact h0
  refine ⟨fun k hk => ?_, fun k hk j hj => ?_, fun y hy hne k hk => ?_⟩
  · unfold rowS
    rw [dif_pos (by omega : k < 10000)]
    exact (pos x r _).isLt
  · rw [rowF_pos x r k (by omega), rowF_pos x r j (by omega)]
    exact step ⟨j, by omega⟩ ⟨k, by omega⟩ hj (by dsimp only; omega)
  · obtain ⟨m, hm⟩ := sortedFrom_surjective (before x r) ⟨y, hy⟩
    have hm' : pos x r m = ⟨y, hy⟩ := hm
    have hge : 32 ≤ m.val := by
      by_contra hlt
      refine hne m.val (by omega) ?_
      unfold rowS
      rw [dif_pos m.isLt]
      exact congrArg Fin.val hm'
    have e : rowF x r y = x (ix2 r (pos x r m)) := by
      rw [hm']
      exact dif_pos hy
    rw [e, rowF_pos x r k (by omega)]
    exact step ⟨k, by omega⟩ m (Fin.lt_def.mpr (by dsimp only; omega)) hk

/-! The arguments. -/

section
variable (x0 : FVec Ideal S10000x512 .f32) (x1 : FVec Ideal S512x512 .f32) (x2 : FVec Ideal S512 .f32) (x3 : FVec Ideal S512x512 .f32)
  (x4 : FVec Ideal S512 .f32)

/-- The logits. -/
abbrev logits : FVec Ideal S10000x10000 .f32 := val_main_v13 (F := Ideal) x0 x1 x2 x3 x4

/-- A projection. -/
def proj (x : FVec Ideal S10000x512 .f32) (w : FVec Ideal S512x512 .f32) (b : FVec Ideal S512 .f32) (r : Fin 10000) (q : Fin 512) : EReal :=
  (∑ k : Fin 512, x (ix2 r k) * w (ix2 q k)) + b (ix1 q)

theorem logits_apply (r y : Fin 10000) : logits x0 x1 x2 x3 x4 (ix2 r y)
    = (∑ q : Fin 512, proj x0 x1 x2 r q * proj x0 x3 x4 y q) * Ideal.ofBits .f32 0x3D3504F3#32 := by
  unfold logits
  pointwise [val_main_v13, val_main_v12, val_main_cst, val_main_v11, val_main_v10, val_main_v9, val_main_v8, val_main_v7, val_main_v6,
    val_main_v5, val_main_v4, val_main_v3, val_main_v2, val_main_v1, val_main_v0, proj]

theorem lead (h : Cert.Pre_leading.fn (F := Ideal) x0 x1 x2 x3 x4 = fun _ => 1#1) (r : Fin 10000) :
    Lead 10000 32 (rowF (logits x0 x1 x2 x3 x4) r) (rowS (logits x0 x1 x2 x3 x4) r) := by
  refine lead_of _ r fun j => ?_
  have h1 := congrFun h (fun a => a.elim0)
  unfold Cert.Pre_leading.fn at h1
  have h2 : Host.reduce (t := Cert.Pre_leading.S_) (u := Cert.Pre_leading.S_) (axes := [0, 1]) IntOp.andi
      (cmpf .ogt
        (extractStridedSlice Cert.Pre_leading.S10000x32 ![0, 0] (Host.topK Cert.Pre_leading.S10000x33 1 (FloatOps.cmpfTotal .gt) (logits x0 x1 x2 x3 x4) Cert.Pre_leading.Gen.sliceFits_S10000x10000_S10000x33).1 Cert.Pre_leading.Gen.slices_S10000x33_S10000x32_0_0)
        (extractStridedSlice Cert.Pre_leading.S10000x32 ![0, 1] (Host.topK Cert.Pre_leading.S10000x33 1 (FloatOps.cmpfTotal .gt) (logits x0 x1 x2 x3 x4) Cert.Pre_leading.Gen.sliceFits_S10000x10000_S10000x33).1 Cert.Pre_leading.Gen.slices_S10000x33_S10000x32_0_1))
      (constantI Cert.Pre_leading.S_ 1 1#1) Cert.Pre_leading.Gen.reducesTo_S10000x32_S_d0_1 Cert.Pre_leading.Gen.h_S_ (fun a => a.elim0) = 1#1 := h1
  generalize logits x0 x1 x2 x3 x4 = x at h2 ⊢
  haveI : Subsingleton Cert.Pre_leading.S_.Idx := ⟨fun a b => funext fun i => i.elim0⟩
  have h3 := Host.reduce_andi_all _ _ _ _ _ h2 (ix2 r j)
  generalize hT : (Host.topK Cert.Pre_leading.S10000x33 1 (FloatOps.cmpfTotal .gt) x Cert.Pre_leading.Gen.sliceFits_S10000x10000_S10000x33).1 = T at h3
  have e0 := topVal33_apply x Cert.Pre_leading.Gen.sliceFits_S10000x10000_S10000x33 r ⟨j.val, by omega⟩
  have e1 := topVal33_apply x Cert.Pre_leading.Gen.sliceFits_S10000x10000_S10000x33 r ⟨j.val + 1, by omega⟩
  rw [hT] at e0 e1
  rw [← e0, ← e1]
  clear h h1 h2 hT e0 e1
  revert h3
  pointwise []
  intro h3
  have h4 : ∀ p : Prop, [Decidable p] → BitVec.ofBool (decide p) = 1#1 → p := fun p _ hp => by
    by_contra hn
    rw [decide_eq_false hn] at hp
    exact absurd hp (by decide)
  have h5 := h4 _ h3
  have e : (⟨1 + j.val, by omega⟩ : Fin 33) = ⟨j.val + 1, by omega⟩ := Fin.ext (Nat.add_comm _ _)
  rw [e] at h5
  exact h5

theorem indices_apply (r : Fin 10000) (j : Fin 32) :
    val_main_indices (F := Ideal) x0 x1 x2 x3 x4 (ix2 r j) = BitVec.ofNat 32 (rowS (logits x0 x1 x2 x3 x4) r j.val) := by
  unfold rowS
  rw [dif_pos (by omega : j.val < 10000)]
  exact topIdx_apply _ _ r j

theorem values_apply (r : Fin 10000) (j : Fin 32) :
    val_main_values (F := Ideal) x0 x1 x2 x3 x4 (ix2 r j) = rowF (logits x0 x1 x2 x3 x4) r (rowS (logits x0 x1 x2 x3 x4) r j.val) := by
  rw [rowF_pos _ r j.val (by omega)]
  exact topVal_apply _ _ r j

/-- The weights: the values shifted by the first one, exponentiated, over their sum. -/
theorem weights_apply (hL : ∀ r, Lead 10000 32 (rowF (logits x0 x1 x2 x3 x4) r) (rowS (logits x0 x1 x2 x3 x4) r)) (r : Fin 10000) (j : Fin 32) :
    val_main_v24 (F := Ideal) x0 x1 x2 x3 x4 (ix2 r j)
      = Ideal.div (Ideal.exp (rowF (logits x0 x1 x2 x3 x4) r (rowS (logits x0 x1 x2 x3 x4) r j.val) - rowF (logits x0 x1 x2 x3 x4) r (rowS (logits x0 x1 x2 x3 x4) r 0)))
        (∑ x : Fin 32, Ideal.exp (rowF (logits x0 x1 x2 x3 x4) r (rowS (logits x0 x1 x2 x3 x4) r x.val) - rowF (logits x0 x1 x2 x3 x4) r (rowS (logits x0 x1 x2 x3 x4) r 0))) := by
  have hv := values_apply x0 x1 x2 x3 x4 r
  have hm : Finset.fold max (⊥ : EReal) (fun x : Fin 32 => val_main_values (F := Ideal) x0 x1 x2 x3 x4 (ix2 r x)) Finset.univ
      = rowF (logits x0 x1 x2 x3 x4) r (rowS (logits x0 x1 x2 x3 x4) r 0) := by
    refine le_antisymm ?_ ?_
    · obtain ⟨i, hi⟩ := exists_foldMax fun x : Fin 32 => val_main_values (F := Ideal) x0 x1 x2 x3 x4 (ix2 r x)
      rw [← hi, hv]
      rcases Nat.eq_zero_or_pos i.val with h0 | h0
      · rw [h0]
      · exact le_of_lt ((hL r).anti i.val i.isLt 0 h0)
    · refine le_of_eq_of_le (hv 0).symm ?_
      exact le_foldMax (fun x : Fin 32 => val_main_values (F := Ideal) x0 x1 x2 x3 x4 (ix2 r x)) 0
  simp only [← hv, ← hm]
  clear hm hv
  generalize hV : val_main_values (F := Ideal) x0 x1 x2 x3 x4 = V
  pointwise [val_main_v24, val_main_v23, val_main_v22, val_main_v21, val_main_v20, val_main_v19, val_main_v18, val_main_v17, val_main_v16,
    val_main_v15, val_main_v14, val_main_cst_2, val_main_cst_1, val_main_cst_0, hV]
  rw [negInf]
  have hb : ∀ a : EReal, max (⊥ : EReal) a = a := fun a => max_eq_right bot_le
  simp only [hb]

end

end Cert.Ref
-- ==== Proof.Arrays.lean ====
/-
  What the two calls leave in their arrays, read at a row and a column: the first call's two outputs are the two
  projections of the (padded) input's rows, the second call's outputs are the positions and the weights of the 32 largest
  scores of a row.
-/
module

public import proofs.«01_k».proof.Proof.Run
public import proofs.«01_k».proof.Proof.Branch
public import proofs.«01_k».proof.Proof.Ref
public import Idealize.ShloMosaic.Lib.Pipeline.ValueKit.Geometry
public import Idealize.ShloMosaic.Lib.Pointwise

@[expose] public section

set_option maxRecDepth 8192

noncomputable section

namespace Cert.KernelIdeal.Arrays

open Cert.KernelIdeal Cert.KernelIdeal.Gen Cert.KernelIdeal.Model Cert.KernelIdeal.Run
open Idealize.ShloMosaic Idealize.ShloMosaic.TcCoe
open Idealize.SL.Sem

variable (m : (ℓ : Loc nD τ sig) → Buf (Elt Ideal) ℓ) (c : Dev nD)

/-! The arguments, and what the host makes of them for call 0. -/

abbrev arg0 : FVec Ideal S10000x512 .f32 := m ((c : Thread nD τ).loc main_arg0)
abbrev arg1 : FVec Ideal S512x512 .f32 := m ((c : Thread nD τ).loc main_arg1)
abbrev arg2 : FVec Ideal S512 .f32 := m ((c : Thread nD τ).loc main_arg2)
abbrev arg3 : FVec Ideal S512x512 .f32 := m ((c : Thread nD τ).loc main_arg3)
abbrev arg4 : FVec Ideal S512 .f32 := m ((c : Thread nD τ).loc main_arg4)
abbrev rows : FVec Ideal S10240x512 .f32 := V3 m c main_v0
abbrev bias1 : FVec Ideal S1x512 .f32 := V3 m c main_v1
abbrev bias2 : FVec Ideal S1x512 .f32 := V3 m c main_v2

/-- The padded input begins with the argument's rows. -/
theorem rows_apply (r : Fin 10240) (h : r.val < 10000) (k : Fin 512) : rows m c (ix2 r k) = arg0 m c (ix2 ⟨r.val, h⟩ k) := by
  have e : rows m c = pad S10240x512 ![0, 0] ![240, 0] ![0, 0] (arg0 m c) (sitofp (F := Ideal) .f32 (constantI S_ 32 0#32)) pads_S10000x512_S10240x512_02400_000 h_S_ := by
    show StableHlo.after hostOps0_2 (StableHlo.after hostOps0_1 (StableHlo.after hostOps0 (V0 m c))) main_v0 = _
    after_results_simp
    rfl
  rw [e]
  pointwise []
  exact dif_pos h

theorem bias1_apply (q : Fin 512) : bias1 m c (ix2 0 q) = arg2 m c (ix1 q) := by
  have e : bias1 m c = shapeCast _ (arg2 m c) shapeCasts_S512_S1x512 := by
    show StableHlo.after hostOps0_2 (StableHlo.after hostOps0_1 (StableHlo.after hostOps0 (V0 m c))) main_v1 = _
    after_results_simp
    rfl
  rw [e]
  pointwise []

theorem bias2_apply (q : Fin 512) : bias2 m c (ix2 0 q) = arg4 m c (ix1 q) := by
  have e : bias2 m c = shapeCast _ (arg4 m c) shapeCasts_S512_S1x512 := by
    show StableHlo.after hostOps0_2 (StableHlo.after hostOps0_1 (StableHlo.after hostOps0 (V0 m c))) main_v2 = _
    after_results_simp
    rfl
  rw [e]
  pointwise []

theorem weight1_eq : V3 m c main_arg1 = arg1 m c :=
  (V3_of m c main_arg1 (by decide)).trans <| (V2_of m c main_arg1 (by decide)).trans <| (V1_of m c main_arg1 (by decide)).trans rfl

theorem weight2_eq : V3 m c main_arg3 = arg3 m c :=
  (V3_of m c main_arg3 (by decide)).trans <| (V2_of m c main_arg3 (by decide)).trans <| (V1_of m c main_arg3 (by decide)).trans rfl

theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![0, 0] := (by decide +kernel : ∀ t : Fin grid0.N, _)
theorem idx0_5 : ∀ t : Fin cfg0.N, win0_5.index t = ![t.val, 0] := (by decide +kernel : ∀ t : Fin grid0.N, _)
theorem idx0_6 : ∀ t : Fin cfg0.N, win0_6.index t = ![t.val, 0] := (by decide +kernel : ∀ t : Fin grid0.N, _)
theorem idx1_0 : ∀ t : Fin cfg1.N, win1_0.index t = ![t.val, 0] := (by decide +kernel : ∀ t : Fin grid1.N, _)
theorem idx1_1 : ∀ t : Fin cfg1.N, win1_1.index t = ![0, 0] := (by decide +kernel : ∀ t : Fin grid1.N, _)
theorem idx1_2 : ∀ t : Fin cfg1.N, win1_2.index t = ![t.val, 0] := (by decide +kernel : ∀ t : Fin grid1.N, _)
theorem idx1_3 : ∀ t : Fin cfg1.N, win1_3.index t = ![t.val, 0] := (by decide +kernel : ∀ t : Fin grid1.N, _)

/-- Row `r` of the padded input against row `q` of the weights, with the bias. -/
def lin (x : FVec Ideal S10240x512 .f32) (w : FVec Ideal S512x512 .f32) (b : FVec Ideal S1x512 .f32) : FVec Ideal S10240x512 .f32 :=
  fun i => (∑ k : Fin 512, x (ix2 (i 0) k) * w (ix2 (i 1) k)) + b (ix2 0 (i 1))

/-- The first output of call 0: the head projection of each row of the padded input. -/
theorem heads_eq : W4 m c main_v3_0 = lin (rows m c) (arg1 m c) (bias1 m c) := by
  refine (W4_out0 m c).trans ((dat0 (ent (V3 m)) c).arrAt_eq_of_covers 5 _ (by decide +kernel) fun t hf y => ?_)
  blk_simp [after0_5]
  rw [← weight1_eq m c]
  pointwise [k0_pay2, k0_pay1]
  unfold lin
  blk_simp [blk0, idx0_0, idx0_1, idx0_2, idx0_5]
  have e0 : ∀ k : Fin 512, (win0_0.blk t).view.emb (ix2 (y 0) k) = ix2 ((win0_5.blk t).view.emb y 0) k := fun k => by
    blk_ext [idx0_0, idx0_5]
  have e1 : ∀ k : Fin 512, (win0_1.blk t).view.emb (ix2 (y 1) k) = ix2 ((win0_5.blk t).view.emb y 1) k := fun k => by
    blk_ext [idx0_1, idx0_5]
  have e2 : (win0_2.blk t).view.emb (ix2 0 (y 1)) = ix2 0 ((win0_5.blk t).view.emb y 1) := by
    blk_ext [idx0_2, idx0_5]
  rw [e2]
  simp only [e0, e1]
  rfl

/-- The second output of call 0: the tail projection of each row of the padded input. -/
theorem tails_eq : W4 m c main_v3_1 = lin (rows m c) (arg3 m c) (bias2 m c) := by
  refine (W4_out1 m c).trans ((dat0 (ent (V3 m)) c).arrAt_eq_of_covers 6 _ (by decide +kernel) fun t hf y => ?_)
  blk_simp [after0_6]
  rw [← weight2_eq m c]
  pointwise [k0_pay3, k0_pay1]
  unfold lin
  blk_simp [blk0, idx0_0, idx0_3, idx0_4, idx0_6]
  have e0 : ∀ k : Fin 512, (win0_0.blk t).view.emb (ix2 (y 0) k) = ix2 ((win0_6.blk t).view.emb y 0) k := fun k => by
    blk_ext [idx0_0, idx0_6]
  have e1 : ∀ k : Fin 512, (win0_3.blk t).view.emb (ix2 (y 1) k) = ix2 ((win0_6.blk t).view.emb y 1) k := fun k => by
    blk_ext [idx0_3, idx0_6]
  have e2 : (win0_4.blk t).view.emb (ix2 0 (y 1)) = ix2 0 ((win0_6.blk t).view.emb y 1) := by
    blk_ext [idx0_4, idx0_6]
  rw [e2]
  simp only [e0, e1]
  rfl

/-- On the argument's rows these are the reference's projections. -/
theorem lin1_apply (r : Fin 10240) (h : r.val < 10000) (q : Fin 512) :
    lin (rows m c) (arg1 m c) (bias1 m c) (ix2 r q) = Cert.Ref.proj (arg0 m c) (arg1 m c) (arg2 m c) ⟨r.val, h⟩ q := by
  unfold lin Cert.Ref.proj
  dsimp only [ix2]
  exact congrArg₂ (· + ·) (Finset.sum_congr rfl fun k _ => congrArg (· * arg1 m c (ix2 q k)) (rows_apply m c r h k)) (bias1_apply m c q)

theorem lin2_apply (r : Fin 10240) (h : r.val < 10000) (q : Fin 512) :
    lin (rows m c) (arg3 m c) (bias2 m c) (ix2 r q) = Cert.Ref.proj (arg0 m c) (arg3 m c) (arg4 m c) ⟨r.val, h⟩ q := by
  unfold lin Cert.Ref.proj
  dsimp only [ix2]
  exact congrArg₂ (· + ·) (Finset.sum_congr rfl fun k _ => congrArg (· * arg3 m c (ix2 q k)) (rows_apply m c r h k)) (bias2_apply m c q)

/-- The block of heads that call 1 finds at point `t`. -/
theorem headBlock_apply (t : Fin cfg1.N) (a : Fin 256) (h : t.val * 256 + a.val < 10000) (q : Fin 512) :
    (blk1 (ent (W4 m)) c 0 t : Vec Ideal S256x512 .f32) (ix2 a q) = Cert.Ref.proj (arg0 m c) (arg1 m c) (arg2 m c) ⟨t.val * 256 + a.val, h⟩ q := by
  have e : (win1_0.blk t).view.emb (ix2 a q) = ix2 (⟨t.val * 256 + a.val, by omega⟩ : Fin 10240) q := by
    blk_ext [idx1_0]
  blk_simp [blk1]
  rw [e]
  exact (congrFun (heads_eq m c) _).trans (lin1_apply m c _ h q)

/-- The array of tails that call 1 finds at every point. -/
theorem tailBlock_apply (t : Fin cfg1.N) (y : Fin 10240) (h : y.val < 10000) (q : Fin 512) :
    (blk1 (ent (W4 m)) c 1 t : Vec Ideal S10240x512 .f32) (ix2 y q) = Cert.Ref.proj (arg0 m c) (arg3 m c) (arg4 m c) ⟨y.val, h⟩ q := by
  have e : (win1_1.blk t).view.emb (ix2 y q) = ix2 y q := by
    blk_ext [idx1_1]
  blk_simp [blk1]
  rw [e]
  exact (congrFun (tails_eq m c) _).trans (lin2_apply m c _ h q)

/-- The logits of the arguments. -/
abbrev lg : FVec Ideal Cert.ReferenceIdeal.S10000x10000 .f32 := Cert.Ref.logits (arg0 m c) (arg1 m c) (arg2 m c) (arg3 m c) (arg4 m c)

/-- The scores of row `a` of point `t` are the logits of that row, with nothing beyond the argument's rows. -/
theorem scr_eq (t : Fin cfg1.N) (a : Fin 256) (h : t.val * 256 + a.val < 10000) (y : Fin 10240) :
    scr (F := Ideal) (blk1 (ent (W4 m)) c 0 t) (blk1 (ent (W4 m)) c 1 t) (ix2 a y) = Cert.Ref.rowF (lg m c) ⟨t.val * 256 + a.val, h⟩ y.val := by
  refine (Pay.scr_apply _ _ a y).trans ?_
  unfold Cert.Ref.rowF
  by_cases hy : y.val < 10000
  · rw [if_pos hy, dif_pos hy]
    refine Eq.trans ?_ (Cert.Ref.logits_apply _ _ _ _ _ _ _).symm
    refine congrArg (· * _) (Finset.sum_congr rfl fun q _ => ?_)
    exact congrArg₂ (· * ·) (headBlock_apply m c t a h q) (tailBlock_apply m c t y hy q)
  · rw [if_neg hy, dif_neg hy]

section Out

variable (fi : Vec Ideal S256x512 .f32 → Vec Ideal S10240x512 .f32 → Vec Ideal S256x32 .i32)
  (fw : Vec Ideal S256x512 .f32 → Vec Ideal S10240x512 .f32 → Vec Ideal S256x32 .f32)

/-- The first output of call 1, on the argument's rows, from what each point leaves. -/
theorem out0_apply (G : Fin 10000 → Fin 32 → BitVec 32)
    (hG : ∀ (t : Fin cfg1.N) (a : Fin 256) (h : t.val * 256 + a.val < 10000) (j : Fin 32),
      fi (blk1 (ent (W4 m)) c 0 t) (blk1 (ent (W4 m)) c 1 t) (ix2 a j) = G ⟨t.val * 256 + a.val, h⟩ j)
    (r : Fin 10240) (h : r.val < 10000) (j : Fin 32) :
    (W5 fi fw m c main_v4_0 : Vec Ideal S10240x32 .i32) (ix2 r j) = G ⟨r.val, h⟩ j := by
  refine (congrFun (W5_out0 fi fw m c) _).trans ?_
  refine (dat1 fi fw (ent (W4 m)) c).arrAt_forall_of_covers 2
    (fun (i : S10240x32.Idx) (v : BitVec 32) => ∀ h : (i 0).val < 10000, v = G ⟨(i 0).val, h⟩ (i 1))
    (by decide +kernel) (fun t hf y => ?_) (ix2 r j) (Memref.isWhole_whole _) h
  intro h'
  have e0 : ((win1_2.blk t).view.emb y 0).val = t.val * 256 + (y 0).val := by blk_simp [idx1_2]
  have e1 : (win1_2.blk t).view.emb y 1 = y 1 := by apply Fin.ext; blk_simp [idx1_2]
  have e : (y : S256x32.Idx) = ix2 (y 0) (y 1) := by
    funext a
    match a with
    | ⟨0, _⟩ => rfl
    | ⟨1, _⟩ => rfl
  refine (congrFun (after1_2 fi fw (ent (W4 m)) c t) y).trans ?_
  refine (congrArg _ e).trans ((hG t (y 0) (e0 ▸ h') (y 1)).trans ?_)
  exact congrArg₂ G (Fin.ext e0.symm) e1.symm

/-- The second output of call 1, on the argument's rows, from what each point leaves. -/
theorem out1_apply (G : Fin 10000 → Fin 32 → EReal)
    (hG : ∀ (t : Fin cfg1.N) (a : Fin 256) (h : t.val * 256 + a.val < 10000) (j : Fin 32),
      fw (blk1 (ent (W4 m)) c 0 t) (blk1 (ent (W4 m)) c 1 t) (ix2 a j) = G ⟨t.val * 256 + a.val, h⟩ j)
    (r : Fin 10240) (h : r.val < 10000) (j : Fin 32) :
    (W5 fi fw m c main_v4_1 : Vec Ideal S10240x32 .f32) (ix2 r j) = G ⟨r.val, h⟩ j := by
  refine (congrFun (W5_out1 fi fw m c) _).trans ?_
  refine (dat1 fi fw (ent (W4 m)) c).arrAt_forall_of_covers 3
    (fun (i : S10240x32.Idx) (v : EReal) => ∀ h : (i 0).val < 10000, v = G ⟨(i 0).val, h⟩ (i 1))
    (by decide +kernel) (fun t hf y => ?_) (ix2 r j) (Memref.isWhole_whole _) h
  intro h'
  have e0 : ((win1_3.blk t).view.emb y 0).val = t.val * 256 + (y 0).val := by blk_simp [idx1_3]
  have e1 : (win1_3.blk t).view.emb y 1 = y 1 := by apply Fin.ext; blk_simp [idx1_3]
  have e : (y : S256x32.Idx) = ix2 (y 0) (y 1) := by
    funext a
    match a with
    | ⟨0, _⟩ => rfl
    | ⟨1, _⟩ => rfl
  refine (congrFun (after1_3 fi fw (ent (W4 m)) c t) y).trans ?_
  refine (congrArg _ e).trans ((hG t (y 0) (e0 ▸ h') (y 1)).trans ?_)
  exact congrArg₂ G (Fin.ext e0.symm) e1.symm

end Out

variable (hL : ∀ r, Cert.Rank.Lead 10000 32 (Cert.Ref.rowF (lg m c) r) (Cert.Ref.rowS (lg m c) r))

include hL in
/-- So what call 1 selects for that row are its leading logits and their positions. -/
theorem sel_eq (t : Fin cfg1.N) (a : Fin 256) (h : t.val * 256 + a.val < 10000) (j : Fin 32) :
    (sel (F := Ideal) (blk1 (ent (W4 m)) c 0 t) (blk1 (ent (W4 m)) c 1 t)).1 (ix2 a j)
        = Cert.Ref.rowF (lg m c) ⟨t.val * 256 + a.val, h⟩ (Cert.Ref.rowS (lg m c) ⟨t.val * 256 + a.val, h⟩ j.val)
      ∧ (sel (F := Ideal) (blk1 (ent (W4 m)) c 0 t) (blk1 (ent (W4 m)) c 1 t)).2 (ix2 a j)
        = BitVec.ofNat 32 (Cert.Ref.rowS (lg m c) ⟨t.val * 256 + a.val, h⟩ j.val) :=
  Branch.sel_apply _ _ a _ _ (scr_eq m c t a h) (fun y hy _ => dif_neg (Nat.not_lt.mpr hy)) (hL _) j

variable (fi : Vec Ideal S256x512 .f32 → Vec Ideal S10240x512 .f32 → Vec Ideal S256x32 .i32)
  (fw : Vec Ideal S256x512 .f32 → Vec Ideal S10240x512 .f32 → Vec Ideal S256x32 .f32)
  (hi : ∀ x y, fi x y = (sel x y).2) (hw : ∀ x y, fw x y = wOf (sel x y).1)

include hL hi in
/-- The first output of call 1, on the argument's rows: the reference's indices. -/
theorem indices_eq (r : Fin 10240) (h : r.val < 10000) (j : Fin 32) :
    (W5 fi fw m c main_v4_0 : Vec Ideal S10240x32 .i32) (ix2 r j)
      = Cert.ReferenceIdeal.Read.val_main_indices (F := Ideal) (arg0 m c) (arg1 m c) (arg2 m c) (arg3 m c) (arg4 m c) (ix2 ⟨r.val, h⟩ j) :=
  (out0_apply m c fi fw (fun r j => BitVec.ofNat 32 (Cert.Ref.rowS (lg m c) r j.val))
    (fun t a h j => (congrFun (hi _ _) _).trans (sel_eq m c hL t a h j).2) r h j).trans
    (Cert.Ref.indices_apply _ _ _ _ _ _ _).symm

include hL hw in
/-- The second output of call 1, on the argument's rows: the reference's weights. -/
theorem weights_eq (r : Fin 10240) (h : r.val < 10000) (j : Fin 32) :
    (W5 fi fw m c main_v4_1 : Vec Ideal S10240x32 .f32) (ix2 r j)
      = Cert.ReferenceIdeal.Read.val_main_v24 (F := Ideal) (arg0 m c) (arg1 m c) (arg2 m c) (arg3 m c) (arg4 m c) (ix2 ⟨r.val, h⟩ j) := by
  refine (out1_apply m c fi fw (fun r j => Ideal.div (Ideal.exp (Cert.Ref.rowF (lg m c) r (Cert.Ref.rowS (lg m c) r j.val) - Cert.Ref.rowF (lg m c) r (Cert.Ref.rowS (lg m c) r 0)))
        (∑ x : Fin 32, Ideal.exp (Cert.Ref.rowF (lg m c) r (Cert.Ref.rowS (lg m c) r x.val) - Cert.Ref.rowF (lg m c) r (Cert.Ref.rowS (lg m c) r 0)))) (fun t a h j => ?_) r h j).trans
    (Cert.Ref.weights_apply _ _ _ _ _ hL _ _).symm
  refine (congrFun (hw _ _) _).trans ((Pay.wOf_apply _ a j).trans ?_)
  have hs := fun j => (sel_eq m c hL t a h j).1
  simp only [hs]
  rfl

end Cert.KernelIdeal.Arrays

end
-- ==== Proof.Equal.lean ====
/-
  The program's two results and the reference's: the host lays out what call 1 leaves as the reference lays out its
  indices and weights.
-/
module

public import proofs.«01_k».proof.Proof.Arrays

@[expose] public section

set_option maxRecDepth 8192

noncomputable section

namespace Cert.KernelIdeal.Equal

open Cert.KernelIdeal Cert.KernelIdeal.Gen Cert.KernelIdeal.Model Cert.KernelIdeal.Run Cert.KernelIdeal.Arrays
open Idealize.ShloMosaic Idealize.ShloMosaic.TcCoe
open Idealize.SL.Sem

/-- The two rows of the edge list, from the positions. -/
def edges (x : IVec S10000x32 32) : IVec S2x320000 32 :=
  concatenate S2x320000 0 [⟨S1x320000, broadcastInDim S1x320000 ![1] bcast_S320000_S1x320000_1 (shapeCast S320000 (broadcastInDim S10000x32 ![0] bcast_S10000_S10000x32_0 (iotaInDim S10000 32 0)) shapeCasts_S10000x32_S320000)⟩,
    ⟨S1x320000, broadcastInDim S1x320000 ![1] bcast_S320000_S1x320000_1 (shapeCast S320000 x shapeCasts_S10000x32_S320000)⟩] concatenates_S1x320000_S1x320000_S2x320000_d0

/-- The weights in one row. -/
def flat (x : FVec Ideal S10000x32 .f32) : FVec Ideal S320000 .f32 := shapeCast S320000 x shapeCasts_S10000x32_S320000

variable (m : (ℓ : Loc nD τ sig) → Buf (Elt Ideal) ℓ) (c : Dev nD)
variable (fi : Vec Ideal S256x512 .f32 → Vec Ideal S10240x512 .f32 → Vec Ideal S256x32 .i32)
  (fw : Vec Ideal S256x512 .f32 → Vec Ideal S10240x512 .f32 → Vec Ideal S256x32 .f32)

theorem W6_edges : W6 fi fw m c main_v13
    = edges (extractStridedSlice S10000x32 ![0, 0] (W5 fi fw m c main_v4_0) slices_S10240x32_S10000x32_0_0) := by
  unfold W6 edges
  after_results_simp
  rfl

theorem W6_flat : W6 fi fw m c main_v14
    = flat (extractStridedSlice S10000x32 ![0, 0] (W5 fi fw m c main_v4_1) slices_S10240x32_S10000x32_0_0) := by
  unfold W6 flat
  after_results_simp
  rfl

section Ref

variable (x0 : FVec Ideal S10000x512 .f32) (x1 : FVec Ideal S512x512 .f32) (x2 : FVec Ideal S512 .f32) (x3 : FVec Ideal S512x512 .f32) (x4 : FVec Ideal S512 .f32)

theorem ref_edges : Cert.ReferenceIdeal.Read.val_main_v31 (F := Ideal) x0 x1 x2 x3 x4 = edges (Cert.ReferenceIdeal.Read.val_main_indices (F := Ideal) x0 x1 x2 x3 x4) := by
  unfold Cert.ReferenceIdeal.Read.val_main_v31 Cert.ReferenceIdeal.Read.val_main_v30 Cert.ReferenceIdeal.Read.val_main_v29 Cert.ReferenceIdeal.Read.val_main_v28
    Cert.ReferenceIdeal.Read.val_main_v27 Cert.ReferenceIdeal.Read.val_main_v26 Cert.ReferenceIdeal.Read.val_main_v25 edges
  generalize Cert.ReferenceIdeal.Read.val_main_indices (F := Ideal) x0 x1 x2 x3 x4 = v
  rfl

theorem ref_flat : Cert.ReferenceIdeal.Read.val_main_v32 (F := Ideal) x0 x1 x2 x3 x4 = flat (Cert.ReferenceIdeal.Read.val_main_v24 (F := Ideal) x0 x1 x2 x3 x4) := by
  unfold Cert.ReferenceIdeal.Read.val_main_v32 flat
  generalize Cert.ReferenceIdeal.Read.val_main_v24 (F := Ideal) x0 x1 x2 x3 x4 = v
  rfl

end Ref

theorem slice_eq {α : Type} (x : S10240x32.Idx → α) (y : S10000x32.Idx → α)
    (h : ∀ (r : Fin 10240) (hr : r.val < 10000) (j : Fin 32), x (ix2 r j) = y (ix2 ⟨r.val, hr⟩ j)) :
    extractStridedSlice S10000x32 ![0, 0] x slices_S10240x32_S10000x32_0_0 = y := by
  funext i
  have e : i = ix2 (i 0) (i 1) := by
    funext a
    match a with
    | ⟨0, _⟩ => rfl
    | ⟨1, _⟩ => rfl
  have hr : (i 0).val < 10000 := (i 0).isLt
  rw [e]
  refine Eq.trans ?_ (h ⟨(i 0).val, by omega⟩ hr (i 1))
  pointwise []

variable (hL : ∀ r, Cert.Rank.Lead 10000 32 (Cert.Ref.rowF (lg m c) r) (Cert.Ref.rowS (lg m c) r))
  (hi : ∀ x y, fi x y = (sel x y).2) (hw : ∀ x y, fw x y = wOf (sel x y).1)

include hL hi in
theorem edges_eq : W6 fi fw m c main_v13 = Cert.ReferenceIdeal.Read.val_main_v31 (F := Ideal) (arg0 m c) (arg1 m c) (arg2 m c) (arg3 m c) (arg4 m c) :=
  (W6_edges m c fi fw).trans ((congrArg edges (slice_eq _ _ fun r h j => indices_eq m c hL fi fw hi r h j)).trans (ref_edges _ _ _ _ _).symm)

include hL hw in
theorem flat_eq : W6 fi fw m c main_v14 = Cert.ReferenceIdeal.Read.val_main_v32 (F := Ideal) (arg0 m c) (arg1 m c) (arg2 m c) (arg3 m c) (arg4 m c) :=
  (W6_flat m c fi fw).trans ((congrArg flat (slice_eq _ _ fun r h j => weights_eq m c hL fi fw hw r h j)).trans (ref_flat _ _ _ _ _).symm)

end Cert.KernelIdeal.Equal

end
-- ==== Proof.lean ====
/-
  The claims, assembled: the frames, the named constant, and the two results equal to the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_leading
public import proofs.«01_k».proof.Proof.Frames
public import proofs.«01_k».proof.Proof.Equal

@[expose] public section

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_leading.Gen.facts

/-- Both programs end with the reference's edge list and weights of the kernel's arguments. -/
theorem algebraic : Cert.algebraic_KernelIdeal_ReferenceIdeal_pre_leading := by
  intro m g m' g' hpre hargs
  obtain ⟨fi, hi⟩ : ∃ fi : Vec Ideal Cert.KernelIdeal.S256x512 .f32 → Vec Ideal Cert.KernelIdeal.S10240x512 .f32 → Vec Ideal Cert.KernelIdeal.S256x32 .i32,
      ∀ x y, fi x y = (Cert.KernelIdeal.Model.sel x y).2 := ⟨_, fun _ _ => rfl⟩
  obtain ⟨fw, hw⟩ : ∃ fw : Vec Ideal Cert.KernelIdeal.S256x512 .f32 → Vec Ideal Cert.KernelIdeal.S10240x512 .f32 → Vec Ideal Cert.KernelIdeal.S256x32 .f32,
      ∀ x y, fw x y = Cert.KernelIdeal.Model.wOf (Cert.KernelIdeal.Model.sel x y).1 := ⟨_, fun _ _ => rfl⟩
  have hL := fun c => Cert.Ref.lead _ _ _ _ _ (hpre c)
  refine ⟨fun c => Cert.KernelIdeal.Run.W6 fi fw m c Cert.KernelIdeal.main_v13, fun c => Cert.KernelIdeal.Run.W6 fi fw m c Cert.KernelIdeal.main_v14,
    (θ_run _ _ _).mono (fun _ h c => h.1 c) (Cert.KernelIdeal.Run.run fi fw hi hw m g),
    (θ_run _ _ _).mono (fun _ h c => ?_) (Cert.ReferenceIdeal.Value.run m' g')⟩
  obtain ⟨h31, h32, hrest⟩ := h c
  obtain ⟨e0, e1, e2, e3, e4⟩ := hargs c
  refine ⟨h31.trans ((Cert.ReferenceIdeal.Read.val_main_v31_eq _ _ _ _ _).trans ?_), h32.trans ((Cert.ReferenceIdeal.Read.val_main_v32_eq m' c).trans ?_), hrest⟩
  · rw [e0, e1, e2, e3, e4]
    exact (Cert.KernelIdeal.Equal.edges_eq m c fi fw (hL c) hi).symm
  · rw [e0, e1, e2, e3, e4]
    exact (Cert.KernelIdeal.Equal.flat_eq m c fi fw (hL c) hw).symm

theorem claim : Cert.Claim := ⟨Cert.Kernel.Gen.facts, Cert.KernelIdeal.Gen.facts, Cert.ReferenceIdeal.Gen.facts, Cert.Pre_leading.Gen.facts,
  fun m ρ _ => Cert.Frames.kernel m ρ, fun m ρ _ => Cert.Frames.kernelIdeal m ρ, fun m ρ _ => Cert.Frames.kernelIdeal m ρ,
  fun m ρ _ => Cert.Frames.referenceIdeal m ρ, fun m ρ _ => Cert.Frames.referenceIdeal m ρ,
  Cert.Frames.preserves, algebraic⟩

end Cert.Proof

end
